-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_largest_literal_finite [hPre_largest_literal_finite : Cert.Pre_largest_literal_finite.Facts] (m : (ℓ : Loc Cert.KernelIdeal.nD Cert.KernelIdeal.τ Cert.KernelIdeal.sig) → Buf (Elt Ideal) ℓ) : Prop :=
  ∀ c : Dev Cert.KernelIdeal.nD,
    (Cert.Pre_largest_literal_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_largest_literal_finite [hPre_largest_literal_finite : Cert.Pre_largest_literal_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_largest_literal_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_largest_literal_finite [hKernelIdeal : Cert.KernelIdeal.Facts] [hPre_largest_literal_finite : Cert.Pre_largest_literal_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_largest_literal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_largest_literal_finite [hReferenceIdeal : Cert.ReferenceIdeal.Facts] [hPre_largest_literal_finite : Cert.Pre_largest_literal_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_largest_literal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_largest_literal_finite [hKernelIdeal : Cert.KernelIdeal.Facts] [hReferenceIdeal : Cert.ReferenceIdeal.Facts] [hPre_largest_literal_finite : Cert.Pre_largest_literal_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_largest_literal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_largest_literal_finite : Cert.Pre_largest_literal_finite.Facts),
    quiescent_Kernel (hKernel := hKernel)
    ∧ quiescent_KernelIdeal (hKernelIdeal := hKernelIdeal)
    ∧ quiescent_KernelIdeal_pre_largest_literal_finite (hKernelIdeal := hKernelIdeal) (hPre_largest_literal_finite := hPre_largest_literal_finite)
    ∧ quiescent_ReferenceIdeal (hReferenceIdeal := hReferenceIdeal)
    ∧ quiescent_ReferenceIdeal_pre_largest_literal_finite (hReferenceIdeal := hReferenceIdeal) (hPre_largest_literal_finite := hPre_largest_literal_finite)
    ∧ preserves_Kernel_KernelIdeal
    ∧ algebraic_KernelIdeal_ReferenceIdeal_pre_largest_literal_finite (hKernelIdeal := hKernelIdeal) (hReferenceIdeal := hReferenceIdeal) (hPre_largest_literal_finite := hPre_largest_literal_finite)
-- ==== Pre_largest_literal_finite.lean ====
abbrev S65536x256 : Shape := ⟨2, ![65536, 256]⟩
abbrev S_ : Shape := ⟨0, ![]⟩
abbrev S8 : Shape := ⟨1, ![8]⟩
abbrev S8x1 : Shape := ⟨2, ![8, 1]⟩
abbrev S1 : Shape := ⟨1, ![1]⟩
abbrev S1x1 : Shape := ⟨2, ![1, 1]⟩
abbrev S65536x8 : Shape := ⟨2, ![65536, 8]⟩
abbrev S1x8 : Shape := ⟨2, ![1, 8]⟩
abbrev S65536 : Shape := ⟨1, ![65536]⟩

class Facts : Prop where
  bcast_S_S8 : S_.BroadcastsInDim S8 (![] : Fin 0 → Fin S8.rank)
  bcast_S8_S8x1_0 : S8.BroadcastsInDim S8x1 (![0] : Fin 1 → Fin S8x1.rank)
  bcast_S_S8x1 : S_.BroadcastsInDim S8x1 (![] : Fin 0 → Fin S8x1.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  reducesTo_S8x1_S8_d1 : S8x1.ReducesTo [1] S8
  h_S_ : 0 < S_.numel
  bcast_S8_S65536x8_1 : S8.BroadcastsInDim S65536x8 (![1] : Fin 1 → Fin S65536x8.rank)
  bcast_S_S65536x8 : S_.BroadcastsInDim S65536x8 (![] : Fin 0 → Fin S65536x8.rank)
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  reducesTo_S65536x8_S65536_d1 : S65536x8.ReducesTo [1] S65536
  bcast_S_S65536 : S_.BroadcastsInDim S65536 (![] : Fin 0 → Fin S65536.rank)
  gather_S65536x256_S8x1_S65536x8_0_1_n_n_1_1_655361_wf : GatherDims.WF S65536x256 S8x1 S65536x8 [0] [1] [] [1] [] 1 ![65536, 1]

variable [Facts]

def gather_S65536x256_S8x1_S65536x8_0_1_n_n_1_1_655361 : GatherDims S65536x256 S8x1 S65536x8 where
  offsetDims := [0]
  collapsedSliceDims := [1]
  operandBatchingDims := []
  startIndicesBatchingDims := []
  startIndexMap := [1]
  indexVectorDim := 1
  sliceSizes := ![65536, 1]
  wf := gather_S65536x256_S8x1_S65536x8_0_1_n_n_1_1_655361_wf

noncomputable abbrev lit0 : Fin 8 → BitVec 32 := fun
  | 0 => 0#32 | 1 => 17#32 | 2 => 42#32 | 3 => 100#32 | 4 => 128#32 | 5 => 200#32 | 6 => 255#32 | 7 => 60#32
  | _ => 0#32

noncomputable abbrev lit1 : Fin 8 → BitVec 32 := fun
  | 0 => 0xBF800000#32 | 1 => 0x3F800000#32 | 2 => 0xBF800000#32 | 3 => 0x3F800000#32 | 4 => 0xBF800000#32 | 5 => 0x3F800000#32 | 6 => 0xBF800000#32 | 7 => 0x3F800000#32
  | _ => 0#32

def fn_where {F : FTy → Type} [FloatOps F] (arg0 : IVec S8 1) (arg1 : IVec S8 32) (arg2 : IVec S8 32) : IVec S8 32 :=
  let v0 : IVec S8 32 := select arg0 arg1 arg2
  v0

def fn_take {F : FTy → Type} [FloatOps F] (arg0 : FVec F S65536x256 .f32) (arg1 : IVec S8 32) : FVec F S65536x8 .f32 :=
  let c : IVec S_ 32 := constantI S_ 32 0#32
  let v0 : IVec S8 32 := broadcastInDim S8 ![] bcast_S_S8 c
  let v1 : IVec S8 1 := cmpi .slt arg1 v0
  let c_0 : IVec S_ 32 := constantI S_ 32 256#32
  let v2 : IVec S8 32 := broadcastInDim S8 ![] bcast_S_S8 c_0
  let v3 : IVec S8 32 := addi arg1 v2
  let v4 : IVec S8 32 := fn_where (F := F) v1 v3 arg1
  let v5 : IVec S8x1 32 := broadcastInDim S8x1 ![0] bcast_S8_S8x1_0 v4
  let c_1 : IVec S1 32 := constantI S1 32 255#32
  let c_2 : IVec S_ 32 := constantI S_ 32 0#32
  let v6 : IVec S8x1 32 := broadcastInDim S8x1 ![] bcast_S_S8x1 c_2
  let v7 : IVec S8x1 1 := cmpi .sge v5 v6
  let v8 : IVec S1x1 32 := broadcastInDim S1x1 ![1] bcast_S1_S1x1_1 c_1
  let v9 : IVec S8x1 32 := broadcastInDim S8x1 ![0, 1] bcast_S1x1_S8x1_0_1 v8
  let v10 : IVec S8x1 1 := cmpi .sle v5 v9
  let v11 : IVec S8x1 1 := andi v7 v10
  let c_3 : IVec S_ 1 := constantI S_ 1 1#1
  let v12 : IVec S8 1 := (fun x v => Host.reduce IntOp.andi x v reducesTo_S8x1_S8_d1 h_S_) v11 c_3
  let v13 : FVec F S65536x8 .f32 := (fun x i => Host.gather gather_S65536x256_S8x1_S65536x8_0_1_n_n_1_1_655361 x i) arg0 v5
  let v14 : IVec S65536x8 1 := broadcastInDim S65536x8 ![1] bcast_S8_S65536x8_1 v12
  let cst : FVec F S_ .f32 := constant S_ .f32 0x7FC00000#32
  let v15 : FVec F S65536x8 .f32 := broadcastInDim S65536x8 ![] bcast_S_S65536x8 cst
  let v16 : FVec F S65536x8 .f32 := select v14 v13 v15
  v16

def fn {F : FTy → Type} [FloatOps F] (main_arg0 : FVec F S65536x256 .f32) (main_arg1 : FVec F S_ .f32) : IVec S65536 1 :=
  let main_c : IVec S8 32 := fun i => lit0 (S8.rowMajor i)
  let main_cst : FVec F S8 .f32 := fun i => FloatOps.ofBits .f32 (lit1 (S8.rowMajor i))
  let main_v0 : FVec F S65536x8 .f32 := fn_take (F := F) main_arg0 main_c
  let main_v1 : FVec F S1x8 .f32 := broadcastInDim S1x8 ![1] bcast_S8_S1x8_1 main_cst
  let main_v2 : FVec F S65536x8 .f32 := broadcastInDim S65536x8 ![0, 1] bcast_S1x8_S65536x8_0_1 main_v1
  let main_v3 : FVec F S65536x8 .f32 := mulf main_v0 main_v2
  let main_cst_0 : FVec F S_ .f32 := constant S_ .f32 0xFF800000#32
  let main_v4 : FVec F S65536 .f32 := (fun x v => Host.reduce FloatOps.maximumf x v reducesTo_S65536x8_S65536_d1 h_S_) main_v3 main_cst_0
  let main_v5 : FVec F S65536 .f32 := Host.absf main_v4
  let main_cst_1 : FVec F S_ .f32 := constant S_ .f32 0x7F800000#32
  let main_v6 : FVec F S65536 .f32 := broadcastInDim S65536 ![] bcast_S_S65536 main_cst_1
  let main_v7 : IVec S65536 1 := cmpf .olt main_v5 main_v6
  main_v7
-- ==== Kernel.lean ====
abbrev S65536x256 : Shape := ⟨2, ![65536, 256]⟩
abbrev S_ : Shape := ⟨0, ![]⟩
abbrev S16 : Shape := ⟨1, ![16]⟩
abbrev S65536x8 : Shape := ⟨2, ![65536, 8]⟩
abbrev S64x256 : Shape := ⟨2, ![64, 256]⟩
abbrev S64x8 : Shape := ⟨2, ![64, 8]⟩
abbrev S1x16 : Shape := ⟨2, ![1, 16]⟩

abbrev nBuf : Table → Nat
  | .hbm => 5
  | .local .scVector .vmem => 7
  | _ => 0

abbrev bufTy : (tb : Table) → Fin (nBuf tb) → BufTy
  | .hbm, ⟨0, _⟩ => ⟨S65536x256, .f32⟩
  | .hbm, ⟨1, _⟩ => ⟨S_, .f32⟩
  | .hbm, ⟨2, _⟩ => ⟨S16, .f32⟩
  | .hbm, ⟨3, _⟩ => ⟨S65536x256, .f32⟩
  | .hbm, ⟨4, _⟩ => ⟨S65536x8, .f32⟩
  | .local .scVector .vmem, ⟨0, _⟩ => ⟨S64x256, .f32⟩
  | .local .scVector .vmem, ⟨1, _⟩ => ⟨S64x256, .f32⟩
  | .local .scVector .vmem, ⟨2, _⟩ => ⟨S64x256, .f32⟩
  | .local .scVector .vmem, ⟨3, _⟩ => ⟨S64x256, .f32⟩
  | .local .scVector .vmem, ⟨4, _⟩ => ⟨S64x8, .f32⟩
  | .local .scVector .vmem, ⟨5, _⟩ => ⟨S64x8, .f32⟩
  | .local .scVector .vmem, ⟨6, _⟩ => ⟨S16, .f32⟩
  | _, _ => ⟨S65536x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_arg0_scv : Ref sig .scVector := ⟨.hbm, 0, rfl⟩
abbrev main_v0_scv : Ref sig .scVector := ⟨.hbm, 2, rfl⟩
abbrev main_v1_0_scv : Ref sig .scVector := ⟨.hbm, 3, rfl⟩
abbrev main_v1_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c64_i32 : BitVec 32 := 64#32
  let v10 : BitVec 32 := Scalar.addi c0_i32_2 c64_i32
  let c1_i32 : BitVec 32 := 1#32
  ⟨c0_i32_2, v10, c1_i32⟩
def k0_off1 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v30 : Index := Scalar.indexCast arg19
  let c0_22 : Index := 0#32
  ![v30.toNat, 0]
def k0_off2 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v32 : Index := Scalar.indexCast arg19
  let c16 : Index := 16#32
  ![v32.toNat, 16]
def k0_off3 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v34 : Index := Scalar.indexCast arg19
  let c32 : Index := 32#32
  ![v34.toNat, 32]
def k0_off4 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v36 : Index := Scalar.indexCast arg19
  let c48 : Index := 48#32
  ![v36.toNat, 48]
def k0_off5 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v38 : Index := Scalar.indexCast arg19
  let c64 : Index := 64#32
  ![v38.toNat, 64]
def k0_off6 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v40 : Index := Scalar.indexCast arg19
  let c80 : Index := 80#32
  ![v40.toNat, 80]
def k0_off7 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v42 : Index := Scalar.indexCast arg19
  let c96 : Index := 96#32
  ![v42.toNat, 96]
def k0_off8 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v44 : Index := Scalar.indexCast arg19
  let c112 : Index := 112#32
  ![v44.toNat, 112]
def k0_off9 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v46 : Index := Scalar.indexCast arg19
  let c128 : Index := 128#32
  ![v46.toNat, 128]
def k0_off10 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v48 : Index := Scalar.indexCast arg19
  let c144 : Index := 144#32
  ![v48.toNat, 144]
def k0_off11 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v50 : Index := Scalar.indexCast arg19
  let c160 : Index := 160#32
  ![v50.toNat, 160]
def k0_off12 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v52 : Index := Scalar.indexCast arg19
  let c176 : Index := 176#32
  ![v52.toNat, 176]
def k0_off13 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v54 : Index := Scalar.indexCast arg19
  let c192 : Index := 192#32
  ![v54.toNat, 192]
def k0_off14 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v56 : Index := Scalar.indexCast arg19
  let c208 : Index := 208#32
  ![v56.toNat, 208]
def k0_off15 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v58 : Index := Scalar.indexCast arg19
  let c224 : Index := 224#32
  ![v58.toNat, 224]
def k0_off16 (k0_t1 : Fin k0_t1_loop.trips) : Fin 2 → Nat :=
  let c0_i32_2 : BitVec 32 := 0#32
  let c1_i32 : BitVec 32 := 1#32
  let arg19 : BitVec 32 := Scf.iv c0_i32_2 c1_i32 k0_t1
  let v60 : Index := Scalar.indexCast arg19
  let c240 : Index := 240#32
  ![v60.toNat, 240]
def k0_off17 (i : grid0.Coords) (c0_i32_4 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v12 : BitVec 32 := Scalar.addi v2 c0_i32_4
  let c0_i32_5 : BitVec 32 := 0#32
  ![v12.toNat, 0]
def k0_off17_at (r : Fin 4) : BitVec 32 :=
  if r.val < 2 then
    if r.val < 1 then
      0#32
    else
      64#32
  else
    if r.val < 3 then
      1920#32
    else
      1984#32
@[reducible] def k0_t2_loop : Scf.Loop 32 :=
  let c0_i32_11 : BitVec 32 := 0#32
  let c16_i32 : BitVec 32 := 16#32
  let v18 : BitVec 32 := Scalar.addi c0_i32_11 c16_i32
  let c1_i32_12 : BitVec 32 := 1#32
  ⟨c0_i32_11, v18, c1_i32_12⟩
def k0_off18 (i : grid0.Coords) (k0_t2 : Fin k0_t2_loop.trips) (c0_i32_23 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_11 : BitVec 32 := 0#32
  let c1_i32_12 : BitVec 32 := 1#32
  let arg19 : BitVec 32 := Scf.iv c0_i32_11 c1_i32_12 k0_t2
  let c2_i32_22 : BitVec 32 := 2#32
  let v30 : BitVec 32 := Scalar.muli arg19 c2_i32_22
  let v31 : BitVec 32 := Scalar.addi v30 c0_i32_23
  let c64_i32_24 : BitVec 32 := 64#32
  let v32 : BitVec 32 := Scalar.muli v31 c64_i32_24
  let v33 : BitVec 32 := Scalar.addi v2 v32
  let c0_i32_25 : BitVec 32 := 0#32
  ![v33.toNat, 0]
def k0_cond1 (k0_t2 : Fin k0_t2_loop.trips) : BitVec 1 :=
  let c0_i32_11 : BitVec 32 := 0#32
  let c1_i32_12 : BitVec 32 := 1#32
  let arg19 : BitVec 32 := Scf.iv c0_i32_11 c1_i32_12 k0_t2
  let c2_i32_22 : BitVec 32 := 2#32
  let v30 : BitVec 32 := Scalar.muli arg19 c2_i32_22
  let c0_i32_23 : BitVec 32 := 0#32
  let v31 : BitVec 32 := Scalar.addi v30 c0_i32_23
  let c2_i32_27 : BitVec 32 := 2#32
  let v36 : BitVec 1 := Scalar.cmpi .sge v31 c2_i32_27
  let v37 : BitVec 32 := Scalar.extui v36
  let c0_i32_28 : BitVec 32 := 0#32
  let v38 : BitVec 1 := Scalar.cmpi .ne v37 c0_i32_28
  v38

def k0_off19 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_11 : BitVec 32 := 0#32
  let c1_i32_12 : BitVec 32 := 1#32
  let arg19 : BitVec 32 := Scf.iv c0_i32_11 c1_i32_12 k0_t2
  let c2_i32_22 : BitVec 32 := 2#32
  let v30 : BitVec 32 := Scalar.muli arg19 c2_i32_22
  let c0_i32_23 : BitVec 32 := 0#32
  let v31 : BitVec 32 := Scalar.addi v30 c0_i32_23
  let c2_i32_61 : BitVec 32 := 2#32
  let v72 : BitVec 32 := Scalar.subi v31 c2_i32_61
  let c64_i32_62 : BitVec 32 := 64#32
  let v73 : BitVec 32 := Scalar.muli v72 c64_i32_62
  let v74 : BitVec 32 := Scalar.addi v2 v73
  let c0_i32_63 : BitVec 32 := 0#32
  ![v74.toNat, 0]
def k0_off20 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_11 : BitVec 32 := 0#32
  let c1_i32_12 : BitVec 32 := 1#32
  let arg19 : BitVec 32 := Scf.iv c0_i32_11 c1_i32_12 k0_t2
  let c2_i32_22 : BitVec 32 := 2#32
  let v30 : BitVec 32 := Scalar.muli arg19 c2_i32_22
  let c0_i32_23 : BitVec 32 := 0#32
  let v31 : BitVec 32 := Scalar.addi v30 c0_i32_23
  let c2_i32_61 : BitVec 32 := 2#32
  let v72 : BitVec 32 := Scalar.subi v31 c2_i32_61
  let c64_i32_62 : BitVec 32 := 64#32
  let v73 : BitVec 32 := Scalar.muli v72 c64_i32_62
  let v74 : BitVec 32 := Scalar.addi v2 v73
  let c0_i32_65 : BitVec 32 := 0#32
  ![v74.toNat, 0]
@[reducible] def k0_t3_loop : Scf.Loop 32 :=
  let c0_i32_30 : BitVec 32 := 0#32
  let c4_i32 : BitVec 32 := 4#32
  let v39 : BitVec 32 := Scalar.addi c0_i32_30 c4_i32
  let c1_i32_31 : BitVec 32 := 1#32
  ⟨c0_i32_30, v39, c1_i32_31⟩

def k0_chk1 (v74 : IVec S16 32) (v75 : IVec S16 32) : Prop :=
  (∀ a x, ((![v74, v75] : Fin 2 → IVec S16 32) a x).toNat < S64x256.size a)
theorem k0_idx1_inb : ∀ (v74 : IVec S16 32) (v75 : IVec S16 32) (k0_hw1 : k0_chk1 v74 v75), ∀ a x, ((![v74, v75] : Fin 2 → IVec S16 32) a x).toNat < S64x256.size a := fun v74 v75 k0_hw1 => k0_hw1

def k0_chk2 (v74 : IVec S16 32) (v77 : IVec S16 32) : Prop :=
  (∀ a x, ((![v74, v77] : Fin 2 → IVec S16 32) a x).toNat < S64x256.size a)
theorem k0_idx2_inb : ∀ (v74 : IVec S16 32) (v77 : IVec S16 32) (k0_hw2 : k0_chk2 v74 v77), ∀ a x, ((![v74, v77] : Fin 2 → IVec S16 32) a x).toNat < S64x256.size a := fun v74 v77 k0_hw2 => k0_hw2

def k0_chk3 (v74 : IVec S16 32) (v79 : IVec S16 32) : Prop :=
  (∀ a x, ((![v74, v79] : Fin 2 → IVec S16 32) a x).toNat < S64x256.size a)
theorem k0_idx3_inb : ∀ (v74 : IVec S16 32) (v79 : IVec S16 32) (k0_hw3 : k0_chk3 v74 v79), ∀ a x, ((![v74, v79] : Fin 2 → IVec S16 32) a x).toNat < S64x256.size a := fun v74 v79 k0_hw3 => k0_hw3

def k0_chk4 (v74 : IVec S16 32) (v81 : IVec S16 32) : Prop :=
  (∀ a x, ((![v74, v81] : Fin 2 → IVec S16 32) a x).toNat < S64x256.size a)
theorem k0_idx4_inb : ∀ (v74 : IVec S16 32) (v81 : IVec S16 32) (k0_hw4 : k0_chk4 v74 v81), ∀ a x, ((![v74, v81] : Fin 2 → IVec S16 32) a x).toNat < S64x256.size a := fun v74 v81 k0_hw4 => k0_hw4

def k0_chk5 (v74 : IVec S16 32) (v83 : IVec S16 32) : Prop :=
  (∀ a x, ((![v74, v83] : Fin 2 → IVec S16 32) a x).toNat < S64x256.size a)
theorem k0_idx5_inb : ∀ (v74 : IVec S16 32) (v83 : IVec S16 32) (k0_hw5 : k0_chk5 v74 v83), ∀ a x, ((![v74, v83] : Fin 2 → IVec S16 32) a x).toNat < S64x256.size a := fun v74 v83 k0_hw5 => k0_hw5

def k0_chk6 (v74 : IVec S16 32) (v85 : IVec S16 32) : Prop :=
  (∀ a x, ((![v74, v85] : Fin 2 → IVec S16 32) a x).toNat < S64x256.size a)
theorem k0_idx6_inb : ∀ (v74 : IVec S16 32) (v85 : IVec S16 32) (k0_hw6 : k0_chk6 v74 v85), ∀ a x, ((![v74, v85] : Fin 2 → IVec S16 32) a x).toNat < S64x256.size a := fun v74 v85 k0_hw6 => k0_hw6

def k0_chk7 (v74 : IVec S16 32) (v87 : IVec S16 32) : Prop :=
  (∀ a x, ((![v74, v87] : Fin 2 → IVec S16 32) a x).toNat < S64x256.size a)
theorem k0_idx7_inb : ∀ (v74 : IVec S16 32) (v87 : IVec S16 32) (k0_hw7 : k0_chk7 v74 v87), ∀ a x, ((![v74, v87] : Fin 2 → IVec S16 32) a x).toNat < S64x256.size a := fun v74 v87 k0_hw7 => k0_hw7

def k0_chk8 (v74 : IVec S16 32) (v89 : IVec S16 32) : Prop :=
  (∀ a x, ((![v74, v89] : Fin 2 → IVec S16 32) a x).toNat < S64x256.size a)
theorem k0_idx8_inb : ∀ (v74 : IVec S16 32) (v89 : IVec S16 32) (k0_hw8 : k0_chk8 v74 v89), ∀ a x, ((![v74, v89] : Fin 2 → IVec S16 32) a x).toNat < S64x256.size a := fun v74 v89 k0_hw8 => k0_hw8

def k0_chk9 (v74 : IVec S16 32) (v141 : IVec S16 32) : Prop :=
  (∀ a x, ((![v74, v141] : Fin 2 → IVec S16 32) a x).toNat < S64x256.size a)
theorem k0_idx9_inb : ∀ (v74 : IVec S16 32) (v141 : IVec S16 32) (k0_hw9 : k0_chk9 v74 v141), ∀ a x, ((![v74, v141] : Fin 2 → IVec S16 32) a x).toNat < S64x256.size a := fun v74 v141 k0_hw9 => k0_hw9

def k0_chk10 (v74 : IVec S16 32) (v142 : IVec S16 32) : Prop :=
  (∀ a x, ((![v74, v142] : Fin 2 → IVec S16 32) a x).toNat < S64x8.size a)
theorem k0_idx10_inb : ∀ (v74 : IVec S16 32) (v142 : IVec S16 32) (k0_hw10 : k0_chk10 v74 v142), ∀ a x, ((![v74, v142] : Fin 2 → IVec S16 32) a x).toNat < S64x8.size a := fun v74 v142 k0_hw10 => k0_hw10

def k0_chk11 (v74 : IVec S16 32) (v146 : IVec S16 32) : Prop :=
  (∀ a x, ((![v74, v146] : Fin 2 → IVec S16 32) a x).toNat < S64x256.size a)
theorem k0_idx11_inb : ∀ (v74 : IVec S16 32) (v146 : IVec S16 32) (k0_hw11 : k0_chk11 v74 v146), ∀ a x, ((![v74, v146] : Fin 2 → IVec S16 32) a x).toNat < S64x256.size a := fun v74 v146 k0_hw11 => k0_hw11

def k0_chk12 (v74 : IVec S16 32) (v147 : IVec S16 32) : Prop :=
  (∀ a x, ((![v74, v147] : Fin 2 → IVec S16 32) a x).toNat < S64x8.size a)
theorem k0_idx12_inb : ∀ (v74 : IVec S16 32) (v147 : IVec S16 32) (k0_hw12 : k0_chk12 v74 v147), ∀ a x, ((![v74, v147] : Fin 2 → IVec S16 32) a x).toNat < S64x8.size a := fun v74 v147 k0_hw12 => k0_hw12

def k0_chk13 (v74 : IVec S16 32) (v151 : IVec S16 32) : Prop :=
  (∀ a x, ((![v74, v151] : Fin 2 → IVec S16 32) a x).toNat < S64x256.size a)
theorem k0_idx13_inb : ∀ (v74 : IVec S16 32) (v151 : IVec S16 32) (k0_hw13 : k0_chk13 v74 v151), ∀ a x, ((![v74, v151] : Fin 2 → IVec S16 32) a x).toNat < S64x256.size a := fun v74 v151 k0_hw13 => k0_hw13

def k0_chk14 (v74 : IVec S16 32) (v152 : IVec S16 32) : Prop :=
  (∀ a x, ((![v74, v152] : Fin 2 → IVec S16 32) a x).toNat < S64x8.size a)
theorem k0_idx14_inb : ∀ (v74 : IVec S16 32) (v152 : IVec S16 32) (k0_hw14 : k0_chk14 v74 v152), ∀ a x, ((![v74, v152] : Fin 2 → IVec S16 32) a x).toNat < S64x8.size a := fun v74 v152 k0_hw14 => k0_hw14

def k0_chk15 (v74 : IVec S16 32) (v156 : IVec S16 32) : Prop :=
  (∀ a x, ((![v74, v156] : Fin 2 → IVec S16 32) a x).toNat < S64x256.size a)
theorem k0_idx15_inb : ∀ (v74 : IVec S16 32) (v156 : IVec S16 32) (k0_hw15 : k0_chk15 v74 v156), ∀ a x, ((![v74, v156] : Fin 2 → IVec S16 32) a x).toNat < S64x256.size a := fun v74 v156 k0_hw15 => k0_hw15

def k0_chk16 (v74 : IVec S16 32) (v157 : IVec S16 32) : Prop :=
  (∀ a x, ((![v74, v157] : Fin 2 → IVec S16 32) a x).toNat < S64x8.size a)
theorem k0_idx16_inb : ∀ (v74 : IVec S16 32) (v157 : IVec S16 32) (k0_hw16 : k0_chk16 v74 v157), ∀ a x, ((![v74, v157] : Fin 2 → IVec S16 32) a x).toNat < S64x8.size a := fun v74 v157 k0_hw16 => k0_hw16

def k0_chk17 (v74 : IVec S16 32) (v161 : IVec S16 32) : Prop :=
  (∀ a x, ((![v74, v161] : Fin 2 → IVec S16 32) a x).toNat < S64x256.size a)
theorem k0_idx17_inb : ∀ (v74 : IVec S16 32) (v161 : IVec S16 32) (k0_hw17 : k0_chk17 v74 v161), ∀ a x, ((![v74, v161] : Fin 2 → IVec S16 32) a x).toNat < S64x256.size a := fun v74 v161 k0_hw17 => k0_hw17

def k0_chk18 (v74 : IVec S16 32) (v162 : IVec S16 32) : Prop :=
  (∀ a x, ((![v74, v162] : Fin 2 → IVec S16 32) a x).toNat < S64x8.size a)
theorem k0_idx18_inb : ∀ (v74 : IVec S16 32) (v162 : IVec S16 32) (k0_hw18 : k0_chk18 v74 v162), ∀ a x, ((![v74, v162] : Fin 2 → IVec S16 32) a x).toNat < S64x8.size a := fun v74 v162 k0_hw18 => k0_hw18

def k0_chk19 (v74 : IVec S16 32) (v166 : IVec S16 32) : Prop :=
  (∀ a x, ((![v74, v166] : Fin 2 → IVec S16 32) a x).toNat < S64x256.size a)
theorem k0_idx19_inb : ∀ (v74 : IVec S16 32) (v166 : IVec S16 32) (k0_hw19 : k0_chk19 v74 v166), ∀ a x, ((![v74, v166] : Fin 2 → IVec S16 32) a x).toNat < S64x256.size a := fun v74 v166 k0_hw19 => k0_hw19

def k0_chk20 (v74 : IVec S16 32) (v167 : IVec S16 32) : Prop :=
  (∀ a x, ((![v74, v167] : Fin 2 → IVec S16 32) a x).toNat < S64x8.size a)
theorem k0_idx20_inb : ∀ (v74 : IVec S16 32) (v167 : IVec S16 32) (k0_hw20 : k0_chk20 v74 v167), ∀ a x, ((![v74, v167] : Fin 2 → IVec S16 32) a x).toNat < S64x8.size a := fun v74 v167 k0_hw20 => k0_hw20

def k0_chk21 (v74 : IVec S16 32) (v171 : IVec S16 32) : Prop :=
  (∀ a x, ((![v74, v171] : Fin 2 → IVec S16 32) a x).toNat < S64x256.size a)
theorem k0_idx21_inb : ∀ (v74 : IVec S16 32) (v171 : IVec S16 32) (k0_hw21 : k0_chk21 v74 v171), ∀ a x, ((![v74, v171] : Fin 2 → IVec S16 32) a x).toNat < S64x256.size a := fun v74 v171 k0_hw21 => k0_hw21

def k0_chk22 (v74 : IVec S16 32) (v172 : IVec S16 32) : Prop :=
  (∀ a x, ((![v74, v172] : Fin 2 → IVec S16 32) a x).toNat < S64x8.size a)
theorem k0_idx22_inb : ∀ (v74 : IVec S16 32) (v172 : IVec S16 32) (k0_hw22 : k0_chk22 v74 v172), ∀ a x, ((![v74, v172] : Fin 2 → IVec S16 32) a x).toNat < S64x8.size a := fun v74 v172 k0_hw22 => k0_hw22

def k0_chk23 (v74 : IVec S16 32) (v176 : IVec S16 32) : Prop :=
  (∀ a x, ((![v74, v176] : Fin 2 → IVec S16 32) a x).toNat < S64x256.size a)
theorem k0_idx23_inb : ∀ (v74 : IVec S16 32) (v176 : IVec S16 32) (k0_hw23 : k0_chk23 v74 v176), ∀ a x, ((![v74, v176] : Fin 2 → IVec S16 32) a x).toNat < S64x256.size a := fun v74 v176 k0_hw23 => k0_hw23

def k0_chk24 (v74 : IVec S16 32) (v177 : IVec S16 32) : Prop :=
  (∀ a x, ((![v74, v177] : Fin 2 → IVec S16 32) a x).toNat < S64x8.size a)
theorem k0_idx24_inb : ∀ (v74 : IVec S16 32) (v177 : IVec S16 32) (k0_hw24 : k0_chk24 v74 v177), ∀ a x, ((![v74, v177] : Fin 2 → IVec S16 32) a x).toNat < S64x8.size a := fun v74 v177 k0_hw24 => k0_hw24
def k0_off21 (i : grid0.Coords) (k0_t2 : Fin k0_t2_loop.trips) (c0_i32_23 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_11 : BitVec 32 := 0#32
  let c1_i32_12 : BitVec 32 := 1#32
  let arg19 : BitVec 32 := Scf.iv c0_i32_11 c1_i32_12 k0_t2
  let c2_i32_22 : BitVec 32 := 2#32
  let v30 : BitVec 32 := Scalar.muli arg19 c2_i32_22
  let v31 : BitVec 32 := Scalar.addi v30 c0_i32_23
  let c64_i32_33 : BitVec 32 := 64#32
  let v41 : BitVec 32 := Scalar.muli v31 c64_i32_33
  let v42 : BitVec 32 := Scalar.addi v2 v41
  let c0_i32_36 : BitVec 32 := 0#32
  ![v42.toNat, 0]
def k0_cond2 (k0_t2 : Fin k0_t2_loop.trips) : BitVec 1 :=
  let c0_i32_11 : BitVec 32 := 0#32
  let c1_i32_12 : BitVec 32 := 1#32
  let arg19 : BitVec 32 := Scf.iv c0_i32_11 c1_i32_12 k0_t2
  let c2_i32_22 : BitVec 32 := 2#32
  let v30 : BitVec 32 := Scalar.muli arg19 c2_i32_22
  let c0_i32_23 : BitVec 32 := 0#32
  let v31 : BitVec 32 := Scalar.addi v30 c0_i32_23
  let c2_i32_38 : BitVec 32 := 2#32
  let v47 : BitVec 32 := Scalar.addi v31 c2_i32_38
  let c32_i32 : BitVec 32 := 32#32
  let v48 : BitVec 1 := Scalar.cmpi .slt v47 c32_i32
  let v49 : BitVec 32 := Scalar.extui v48
  let c0_i32_39 : BitVec 32 := 0#32
  let v50 : BitVec 1 := Scalar.cmpi .ne v49 c0_i32_39
  v50

def k0_off22 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_11 : BitVec 32 := 0#32
  let c1_i32_12 : BitVec 32 := 1#32
  let arg19 : BitVec 32 := Scf.iv c0_i32_11 c1_i32_12 k0_t2
  let c2_i32_22 : BitVec 32 := 2#32
  let v30 : BitVec 32 := Scalar.muli arg19 c2_i32_22
  let c0_i32_23 : BitVec 32 := 0#32
  let v31 : BitVec 32 := Scalar.addi v30 c0_i32_23
  let c2_i32_61 : BitVec 32 := 2#32
  let v72 : BitVec 32 := Scalar.addi v31 c2_i32_61
  let c64_i32_62 : BitVec 32 := 64#32
  let v73 : BitVec 32 := Scalar.muli v72 c64_i32_62
  let v74 : BitVec 32 := Scalar.addi v2 v73
  let c0_i32_63 : BitVec 32 := 0#32
  ![v74.toNat, 0]
def k0_cond3 (k0_t2 : Fin k0_t2_loop.trips) : BitVec 1 :=
  let c0_i32_11 : BitVec 32 := 0#32
  let c1_i32_12 : BitVec 32 := 1#32
  let arg19 : BitVec 32 := Scf.iv c0_i32_11 c1_i32_12 k0_t2
  let c2_i32_40 : BitVec 32 := 2#32
  let v51 : BitVec 32 := Scalar.muli arg19 c2_i32_40
  let c1_i32_41 : BitVec 32 := 1#32
  let v52 : BitVec 32 := Scalar.addi v51 c1_i32_41
  let c2_i32_45 : BitVec 32 := 2#32
  let v57 : BitVec 1 := Scalar.cmpi .sge v52 c2_i32_45
  let v58 : BitVec 32 := Scalar.extui v57
  let c0_i32_46 : BitVec 32 := 0#32
  let v59 : BitVec 1 := Scalar.cmpi .ne v58 c0_i32_46
  v59

def k0_off23 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_11 : BitVec 32 := 0#32
  let c1_i32_12 : BitVec 32 := 1#32
  let arg19 : BitVec 32 := Scf.iv c0_i32_11 c1_i32_12 k0_t2
  let c2_i32_40 : BitVec 32 := 2#32
  let v51 : BitVec 32 := Scalar.muli arg19 c2_i32_40
  let c1_i32_41 : BitVec 32 := 1#32
  let v52 : BitVec 32 := Scalar.addi v51 c1_i32_41
  let c2_i32_61 : BitVec 32 := 2#32
  let v72 : BitVec 32 := Scalar.subi v52 c2_i32_61
  let c64_i32_62 : BitVec 32 := 64#32
  let v73 : BitVec 32 := Scalar.muli v72 c64_i32_62
  let v74 : BitVec 32 := Scalar.addi v2 v73
  let c0_i32_63 : BitVec 32 := 0#32
  ![v74.toNat, 0]
def k0_off24 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_11 : BitVec 32 := 0#32
  let c1_i32_12 : BitVec 32 := 1#32
  let arg19 : BitVec 32 := Scf.iv c0_i32_11 c1_i32_12 k0_t2
  let c2_i32_40 : BitVec 32 := 2#32
  let v51 : BitVec 32 := Scalar.muli arg19 c2_i32_40
  let c1_i32_41 : BitVec 32 := 1#32
  let v52 : BitVec 32 := Scalar.addi v51 c1_i32_41
  let c2_i32_61 : BitVec 32 := 2#32
  let v72 : BitVec 32 := Scalar.subi v52 c2_i32_61
  let c64_i32_62 : BitVec 32 := 64#32
  let v73 : BitVec 32 := Scalar.muli v72 c64_i32_62
  let v74 : BitVec 32 := Scalar.addi v2 v73
  let c0_i32_65 : BitVec 32 := 0#32
  ![v74.toNat, 0]
@[reducible] def k0_t4_loop : Scf.Loop 32 :=
  let c0_i32_48 : BitVec 32 := 0#32
  let c4_i32_49 : BitVec 32 := 4#32
  let v60 : BitVec 32 := Scalar.addi c0_i32_48 c4_i32_49
  let c1_i32_50 : BitVec 32 := 1#32
  ⟨c0_i32_48, v60, c1_i32_50⟩

def k0_chk25 (v74 : IVec S16 32) (v75 : IVec S16 32) : Prop :=
  (∀ a x, ((![v74, v75] : Fin 2 → IVec S16 32) a x).toNat < S64x256.size a)
theorem k0_idx25_inb : ∀ (v74 : IVec S16 32) (v75 : IVec S16 32) (k0_hw25 : k0_chk25 v74 v75), ∀ a x, ((![v74, v75] : Fin 2 → IVec S16 32) a x).toNat < S64x256.size a := fun v74 v75 k0_hw25 => k0_hw25

def k0_chk26 (v74 : IVec S16 32) (v77 : IVec S16 32) : Prop :=
  (∀ a x, ((![v74, v77] : Fin 2 → IVec S16 32) a x).toNat < S64x256.size a)
theorem k0_idx26_inb : ∀ (v74 : IVec S16 32) (v77 : IVec S16 32) (k0_hw26 : k0_chk26 v74 v77), ∀ a x, ((![v74, v77] : Fin 2 → IVec S16 32) a x).toNat < S64x256.size a := fun v74 v77 k0_hw26 => k0_hw26

def k0_chk27 (v74 : IVec S16 32) (v79 : IVec S16 32) : Prop :=
  (∀ a x, ((![v74, v79] : Fin 2 → IVec S16 32) a x).toNat < S64x256.size a)
theorem k0_idx27_inb : ∀ (v74 : IVec S16 32) (v79 : IVec S16 32) (k0_hw27 : k0_chk27 v74 v79), ∀ a x, ((![v74, v79] : Fin 2 → IVec S16 32) a x).toNat < S64x256.size a := fun v74 v79 k0_hw27 => k0_hw27

def k0_chk28 (v74 : IVec S16 32) (v81 : IVec S16 32) : Prop :=
  (∀ a x, ((![v74, v81] : Fin 2 → IVec S16 32) a x).toNat < S64x256.size a)
theorem k0_idx28_inb : ∀ (v74 : IVec S16 32) (v81 : IVec S16 32) (k0_hw28 : k0_chk28 v74 v81), ∀ a x, ((![v74, v81] : Fin 2 → IVec S16 32) a x).toNat < S64x256.size a := fun v74 v81 k0_hw28 => k0_hw28

def k0_chk29 (v74 : IVec S16 32) (v83 : IVec S16 32) : Prop :=
  (∀ a x, ((![v74, v83] : Fin 2 → IVec S16 32) a x).toNat < S64x256.size a)
theorem k0_idx29_inb : ∀ (v74 : IVec S16 32) (v83 : IVec S16 32) (k0_hw29 : k0_chk29 v74 v83), ∀ a x, ((![v74, v83] : Fin 2 → IVec S16 32) a x).toNat < S64x256.size a := fun v74 v83 k0_hw29 => k0_hw29

def k0_chk30 (v74 : IVec S16 32) (v85 : IVec S16 32) : Prop :=
  (∀ a x, ((![v74, v85] : Fin 2 → IVec S16 32) a x).toNat < S64x256.size a)
theorem k0_idx30_inb : ∀ (v74 : IVec S16 32) (v85 : IVec S16 32) (k0_hw30 : k0_chk30 v74 v85), ∀ a x, ((![v74, v85] : Fin 2 → IVec S16 32) a x).toNat < S64x256.size a := fun v74 v85 k0_hw30 => k0_hw30

def k0_chk31 (v74 : IVec S16 32) (v87 : IVec S16 32) : Prop :=
  (∀ a x, ((![v74, v87] : Fin 2 → IVec S16 32) a x).toNat < S64x256.size a)
theorem k0_idx31_inb : ∀ (v74 : IVec S16 32) (v87 : IVec S16 32) (k0_hw31 : k0_chk31 v74 v87), ∀ a x, ((![v74, v87] : Fin 2 → IVec S16 32) a x).toNat < S64x256.size a := fun v74 v87 k0_hw31 => k0_hw31

def k0_chk32 (v74 : IVec S16 32) (v89 : IVec S16 32) : Prop :=
  (∀ a x, ((![v74, v89] : Fin 2 → IVec S16 32) a x).toNat < S64x256.size a)
theorem k0_idx32_inb : ∀ (v74 : IVec S16 32) (v89 : IVec S16 32) (k0_hw32 : k0_chk32 v74 v89), ∀ a x, ((![v74, v89] : Fin 2 → IVec S16 32) a x).toNat < S64x256.size a := fun v74 v89 k0_hw32 => k0_hw32

def k0_chk33 (v74 : IVec S16 32) (v141 : IVec S16 32) : Prop :=
  (∀ a x, ((![v74, v141] : Fin 2 → IVec S16 32) a x).toNat < S64x256.size a)
theorem k0_idx33_inb : ∀ (v74 : IVec S16 32) (v141 : IVec S16 32) (k0_hw33 : k0_chk33 v74 v141), ∀ a x, ((![v74, v141] : Fin 2 → IVec S16 32) a x).toNat < S64x256.size a := fun v74 v141 k0_hw33 => k0_hw33

def k0_chk34 (v74 : IVec S16 32) (v142 : IVec S16 32) : Prop :=
  (∀ a x, ((![v74, v142] : Fin 2 → IVec S16 32) a x).toNat < S64x8.size a)
theorem k0_idx34_inb : ∀ (v74 : IVec S16 32) (v142 : IVec S16 32) (k0_hw34 : k0_chk34 v74 v142), ∀ a x, ((![v74, v142] : Fin 2 → IVec S16 32) a x).toNat < S64x8.size a := fun v74 v142 k0_hw34 => k0_hw34

def k0_chk35 (v74 : IVec S16 32) (v146 : IVec S16 32) : Prop :=
  (∀ a x, ((![v74, v146] : Fin 2 → IVec S16 32) a x).toNat < S64x256.size a)
theorem k0_idx35_inb : ∀ (v74 : IVec S16 32) (v146 : IVec S16 32) (k0_hw35 : k0_chk35 v74 v146), ∀ a x, ((![v74, v146] : Fin 2 → IVec S16 32) a x).toNat < S64x256.size a := fun v74 v146 k0_hw35 => k0_hw35

def k0_chk36 (v74 : IVec S16 32) (v147 : IVec S16 32) : Prop :=
  (∀ a x, ((![v74, v147] : Fin 2 → IVec S16 32) a x).toNat < S64x8.size a)
theorem k0_idx36_inb : ∀ (v74 : IVec S16 32) (v147 : IVec S16 32) (k0_hw36 : k0_chk36 v74 v147), ∀ a x, ((![v74, v147] : Fin 2 → IVec S16 32) a x).toNat < S64x8.size a := fun v74 v147 k0_hw36 => k0_hw36

def k0_chk37 (v74 : IVec S16 32) (v151 : IVec S16 32) : Prop :=
  (∀ a x, ((![v74, v151] : Fin 2 → IVec S16 32) a x).toNat < S64x256.size a)
theorem k0_idx37_inb : ∀ (v74 : IVec S16 32) (v151 : IVec S16 32) (k0_hw37 : k0_chk37 v74 v151), ∀ a x, ((![v74, v151] : Fin 2 → IVec S16 32) a x).toNat < S64x256.size a := fun v74 v151 k0_hw37 => k0_hw37

def k0_chk38 (v74 : IVec S16 32) (v152 : IVec S16 32) : Prop :=
  (∀ a x, ((![v74, v152] : Fin 2 → IVec S16 32) a x).toNat < S64x8.size a)
theorem k0_idx38_inb : ∀ (v74 : IVec S16 32) (v152 : IVec S16 32) (k0_hw38 : k0_chk38 v74 v152), ∀ a x, ((![v74, v152] : Fin 2 → IVec S16 32) a x).toNat < S64x8.size a := fun v74 v152 k0_hw38 => k0_hw38

def k0_chk39 (v74 : IVec S16 32) (v156 : IVec S16 32) : Prop :=
  (∀ a x, ((![v74, v156] : Fin 2 → IVec S16 32) a x).toNat < S64x256.size a)
theorem k0_idx39_inb : ∀ (v74 : IVec S16 32) (v156 : IVec S16 32) (k0_hw39 : k0_chk39 v74 v156), ∀ a x, ((![v74, v156] : Fin 2 → IVec S16 32) a x).toNat < S64x256.size a := fun v74 v156 k0_hw39 => k0_hw39

def k0_chk40 (v74 : IVec S16 32) (v157 : IVec S16 32) : Prop :=
  (∀ a x, ((![v74, v157] : Fin 2 → IVec S16 32) a x).toNat < S64x8.size a)
theorem k0_idx40_inb : ∀ (v74 : IVec S16 32) (v157 : IVec S16 32) (k0_hw40 : k0_chk40 v74 v157), ∀ a x, ((![v74, v157] : Fin 2 → IVec S16 32) a x).toNat < S64x8.size a := fun v74 v157 k0_hw40 => k0_hw40

def k0_chk41 (v74 : IVec S16 32) (v161 : IVec S16 32) : Prop :=
  (∀ a x, ((![v74, v161] : Fin 2 → IVec S16 32) a x).toNat < S64x256.size a)
theorem k0_idx41_inb : ∀ (v74 : IVec S16 32) (v161 : IVec S16 32) (k0_hw41 : k0_chk41 v74 v161), ∀ a x, ((![v74, v161] : Fin 2 → IVec S16 32) a x).toNat < S64x256.size a := fun v74 v161 k0_hw41 => k0_hw41

def k0_chk42 (v74 : IVec S16 32) (v162 : IVec S16 32) : Prop :=
  (∀ a x, ((![v74, v162] : Fin 2 → IVec S16 32) a x).toNat < S64x8.size a)
theorem k0_idx42_inb : ∀ (v74 : IVec S16 32) (v162 : IVec S16 32) (k0_hw42 : k0_chk42 v74 v162), ∀ a x, ((![v74, v162] : Fin 2 → IVec S16 32) a x).toNat < S64x8.size a := fun v74 v162 k0_hw42 => k0_hw42

def k0_chk43 (v74 : IVec S16 32) (v166 : IVec S16 32) : Prop :=
  (∀ a x, ((![v74, v166] : Fin 2 → IVec S16 32) a x).toNat < S64x256.size a)
theorem k0_idx43_inb : ∀ (v74 : IVec S16 32) (v166 : IVec S16 32) (k0_hw43 : k0_chk43 v74 v166), ∀ a x, ((![v74, v166] : Fin 2 → IVec S16 32) a x).toNat < S64x256.size a := fun v74 v166 k0_hw43 => k0_hw43

def k0_chk44 (v74 : IVec S16 32) (v167 : IVec S16 32) : Prop :=
  (∀ a x, ((![v74, v167] : Fin 2 → IVec S16 32) a x).toNat < S64x8.size a)
theorem k0_idx44_inb : ∀ (v74 : IVec S16 32) (v167 : IVec S16 32) (k0_hw44 : k0_chk44 v74 v167), ∀ a x, ((![v74, v167] : Fin 2 → IVec S16 32) a x).toNat < S64x8.size a := fun v74 v167 k0_hw44 => k0_hw44

def k0_chk45 (v74 : IVec S16 32) (v171 : IVec S16 32) : Prop :=
  (∀ a x, ((![v74, v171] : Fin 2 → IVec S16 32) a x).toNat < S64x256.size a)
theorem k0_idx45_inb : ∀ (v74 : IVec S16 32) (v171 : IVec S16 32) (k0_hw45 : k0_chk45 v74 v171), ∀ a x, ((![v74, v171] : Fin 2 → IVec S16 32) a x).toNat < S64x256.size a := fun v74 v171 k0_hw45 => k0_hw45

def k0_chk46 (v74 : IVec S16 32) (v172 : IVec S16 32) : Prop :=
  (∀ a x, ((![v74, v172] : Fin 2 → IVec S16 32) a x).toNat < S64x8.size a)
theorem k0_idx46_inb : ∀ (v74 : IVec S16 32) (v172 : IVec S16 32) (k0_hw46 : k0_chk46 v74 v172), ∀ a x, ((![v74, v172] : Fin 2 → IVec S16 32) a x).toNat < S64x8.size a := fun v74 v172 k0_hw46 => k0_hw46

def k0_chk47 (v74 : IVec S16 32) (v176 : IVec S16 32) : Prop :=
  (∀ a x, ((![v74, v176] : Fin 2 → IVec S16 32) a x).toNat < S64x256.size a)
theorem k0_idx47_inb : ∀ (v74 : IVec S16 32) (v176 : IVec S16 32) (k0_hw47 : k0_chk47 v74 v176), ∀ a x, ((![v74, v176] : Fin 2 → IVec S16 32) a x).toNat < S64x256.size a := fun v74 v176 k0_hw47 => k0_hw47

def k0_chk48 (v74 : IVec S16 32) (v177 : IVec S16 32) : Prop :=
  (∀ a x, ((![v74, v177] : Fin 2 → IVec S16 32) a x).toNat < S64x8.size a)
theorem k0_idx48_inb : ∀ (v74 : IVec S16 32) (v177 : IVec S16 32) (k0_hw48 : k0_chk48 v74 v177), ∀ a x, ((![v74, v177] : Fin 2 → IVec S16 32) a x).toNat < S64x8.size a := fun v74 v177 k0_hw48 => k0_hw48
def k0_cond4 (k0_t2 : Fin k0_t2_loop.trips) : BitVec 1 :=
  let c0_i32_11 : BitVec 32 := 0#32
  let c1_i32_12 : BitVec 32 := 1#32
  let arg19 : BitVec 32 := Scf.iv c0_i32_11 c1_i32_12 k0_t2
  let c2_i32_40 : BitVec 32 := 2#32
  let v51 : BitVec 32 := Scalar.muli arg19 c2_i32_40
  let c1_i32_41 : BitVec 32 := 1#32
  let v52 : BitVec 32 := Scalar.addi v51 c1_i32_41
  let c2_i32_57 : BitVec 32 := 2#32
  let v68 : BitVec 32 := Scalar.addi v52 c2_i32_57
  let c32_i32_58 : BitVec 32 := 32#32
  let v69 : BitVec 1 := Scalar.cmpi .slt v68 c32_i32_58
  let v70 : BitVec 32 := Scalar.extui v69
  let c0_i32_59 : BitVec 32 := 0#32
  let v71 : BitVec 1 := Scalar.cmpi .ne v70 c0_i32_59
  v71

def k0_off25 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_11 : BitVec 32 := 0#32
  let c1_i32_12 : BitVec 32 := 1#32
  let arg19 : BitVec 32 := Scf.iv c0_i32_11 c1_i32_12 k0_t2
  let c2_i32_40 : BitVec 32 := 2#32
  let v51 : BitVec 32 := Scalar.muli arg19 c2_i32_40
  let c1_i32_41 : BitVec 32 := 1#32
  let v52 : BitVec 32 := Scalar.addi v51 c1_i32_41
  let c2_i32_61 : BitVec 32 := 2#32
  let v72 : BitVec 32 := Scalar.addi v52 c2_i32_61
  let c64_i32_62 : BitVec 32 := 64#32
  let v73 : BitVec 32 := Scalar.muli v72 c64_i32_62
  let v74 : BitVec 32 := Scalar.addi v2 v73
  let c0_i32_63 : BitVec 32 := 0#32
  ![v74.toNat, 0]
def k0_off26 (i : grid0.Coords) (c1920_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v20 : BitVec 32 := Scalar.addi v2 c1920_i32
  let c0_i32_16 : BitVec 32 := 0#32
  ![v20.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x256 : Shape := ⟨2, ![65536, 256]⟩
abbrev S_ : Shape := ⟨0, ![]⟩
abbrev S8 : Shape := ⟨1, ![8]⟩
abbrev S8x1 : Shape := ⟨2, ![8, 1]⟩
abbrev S1 : Shape := ⟨1, ![1]⟩
abbrev S1x1 : Shape := ⟨2, ![1, 1]⟩
abbrev S65536x8 : Shape := ⟨2, ![65536, 8]⟩
abbrev S1x8 : Shape := ⟨2, ![1, 8]⟩
abbrev S65536 : Shape := ⟨1, ![65536]⟩
abbrev S65536x1 : Shape := ⟨2, ![65536, 1]⟩

abbrev nBuf : Space → Nat
  | .hbm => 66
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S_, .f32⟩
  | .hbm, ⟨2, _⟩ => ⟨S8, .i32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S8x1, .i32⟩
  | .hbm, ⟨18, _⟩ => ⟨S1, .i32⟩
  | .hbm, ⟨19, _⟩ => ⟨S_, .i32⟩
  | .hbm, ⟨20, _⟩ => ⟨S8x1, .i32⟩
  | .hbm, ⟨21, _⟩ => ⟨S8x1, .i1⟩
  | .hbm, ⟨22, _⟩ => ⟨S1x1, .i32⟩
  | .hbm, ⟨23, _⟩ => ⟨S8x1, .i32⟩
  | .hbm, ⟨24, _⟩ => ⟨S8x1, .i1⟩
  | .hbm, ⟨25, _⟩ => ⟨S8x1, .i1⟩
  | .hbm, ⟨26, _⟩ => ⟨S_, .i1⟩
  | .hbm, ⟨27, _⟩ => ⟨S8, .i1⟩
  | .hbm, ⟨28, _⟩ => ⟨S65536x8, .f32⟩
  | .hbm, ⟨29, _⟩ => ⟨S65536x8, .i1⟩
  | .hbm, ⟨30, _⟩ => ⟨S_, .f32⟩
  | .hbm, ⟨31, _⟩ => ⟨S65536x8, .f32⟩
  | .hbm, ⟨32, _⟩ => ⟨S65536x8, .f32⟩
  | .hbm, ⟨33, _⟩ => ⟨S8, .f32⟩
  | .hbm, ⟨34, _⟩ => ⟨S8, .f32⟩
  | .hbm, ⟨35, _⟩ => ⟨S1x8, .f32⟩
  | .hbm, ⟨36, _⟩ => ⟨S65536x8, .f32⟩
  | .hbm, ⟨37, _⟩ => ⟨S65536x8, .f32⟩
  | .hbm, ⟨38, _⟩ => ⟨S_, .f32⟩
  | .hbm, ⟨39, _⟩ => ⟨S65536, .f32⟩
  | .hbm, ⟨40, _⟩ => ⟨S_, .f32⟩
  | .hbm, ⟨41, _⟩ => ⟨S65536, .f32⟩
  | .hbm, ⟨42, _⟩ => ⟨S65536, .f32⟩
  | .hbm, ⟨43, _⟩ => ⟨S65536x1, .f32⟩
  | .hbm, ⟨44, _⟩ => ⟨S65536x8, .f32⟩
  | .hbm, ⟨45, _⟩ => ⟨S65536x8, .f32⟩
  | .hbm, ⟨46, _⟩ => ⟨S65536x8, .f32⟩
  | .hbm, ⟨47, _⟩ => ⟨S_, .f32⟩
  | .hbm, ⟨48, _⟩ => ⟨S65536, .f32⟩
  | .hbm, ⟨49, _⟩ => ⟨S65536x1, .f32⟩
  | .hbm, ⟨50, _⟩ => ⟨S65536x8, .f32⟩
  | .hbm, ⟨51, _⟩ => ⟨S65536x8, .f32⟩
  | .hbm, ⟨52, _⟩ => ⟨S1x8, .f32⟩
  | .hbm, ⟨53, _⟩ => ⟨S65536x8, .f32⟩
  | .hbm, ⟨54, _⟩ => ⟨S65536x8, .f32⟩
  | .hbm, ⟨55, _⟩ => ⟨S_, .f32⟩
  | .hbm, ⟨56, _⟩ => ⟨S65536x256, .f32⟩
  | .hbm, ⟨57, _⟩ => ⟨S_, .i32⟩
  | .hbm, ⟨58, _⟩ => ⟨S8, .i32⟩
  | .hbm, ⟨59, _⟩ => ⟨S8, .i1⟩
  | .hbm, ⟨60, _⟩ => ⟨S_, .i32⟩
  | .hbm, ⟨61, _⟩ => ⟨S8, .i32⟩
  | .hbm, ⟨62, _⟩ => ⟨S8, .i32⟩
  | .hbm, ⟨63, _⟩ => ⟨S8, .i32⟩
  | .hbm, ⟨64, _⟩ => ⟨S8x1, .i32⟩
  | .hbm, ⟨65, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_v14 : Ref sig .tc := ⟨.hbm, 29, rfl⟩
abbrev main_call1_cst : Ref sig .tc := ⟨.hbm, 30, rfl⟩
abbrev main_call1_v15 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_2 : Ref sig .tc := ⟨.hbm, 38, rfl⟩
abbrev main_v7 : Ref sig .tc := ⟨.hbm, 39, rfl⟩
abbrev main_cst_3 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_4 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_5 : Ref sig .tc := ⟨.hbm, 55, rfl⟩
abbrev main_v21 : Ref sig .tc := ⟨.hbm, 56, rfl⟩
abbrev main_c_6 : Ref sig .tc := ⟨.hbm, 57, rfl⟩
abbrev main_v22 : Ref sig .tc := ⟨.hbm, 58, rfl⟩
abbrev main_v23 : Ref sig .tc := ⟨.hbm, 59, rfl⟩
abbrev main_c_7 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩

abbrev nD : Nat := 1
abbrev τ : Topo := Topo.v7x

variable {F : FTy → Type} [FloatOps F]
-- ==== Proof.Own.lean ====
/-
  Steps of a SparseCore tile, stated over a memref OWNED at known contents (`owns`): what one load, one
  store of a row, one indexed load, one indexed store and one transfer do to the contents read through the
  memref. Each is the library's rule for the step, said of what the memref reads instead of what its buffer
  holds, so a proof about a kernel's buffers never mentions the buffer outside the memref.
-/
module

public import Idealize.ShloMosaic.Lib.Memref
public import Idealize.ShloMosaic.Lib.Transfers
public import Idealize.ShloMosaic.Lib.SparseCore.Ops
public import Idealize.ShloMosaic.Lib.Tactic

@[expose] public section

noncomputable section

namespace Cert.Proof.Own

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {α : Type} {Q : α → sProp (MT nD τ sig Ix (Elt F) Name U Lvl)}

local notation "𝕄" => MT nD τ sig Ix (Elt F) Name U Lvl

/-! ## The whole of a memref as the rectangle that is all of its shape -/

theorem set_access_whole {sp : Space} {s : Shape} {e : EltTy} {κ : Kind} (m : Memref sig κ sp s e) :
    (m.access (.whole s)).set = m.view.set := by
  rw [View.set_slice, Rect.set_whole]; rfl

theorem read_access_whole {sp : Space} {s : Shape} {e : EltTy} {κ : Kind} (m : Memref sig κ sp s e) (f : m.view.ty.Contents (Elt F)) :
    (m.access (.whole s)).read (Elt F) f = m.view.read (Elt F) f := by
  funext x
  exact congrArg (m.view.read (Elt F) f) (Rect.emb_whole_apply s x)

/-! ## The steps -/

section Steps

variable {s t : Shape} {e : EltTy}

/-- A load of a rectangle of the memref continues at the memref's values there. -/
theorem own_load {m : Memref sig c.2.kind .vmem s e} {r : Rect s} {hl : m.view.LoadsAt r.toLoadRect}
    {q : PosShare TreeShare} {X : s.Idx → Elt F e} {k : (r.shape.Idx → Elt F e) → Prog (TpuEff nD τ sig (Elt F) Λ c.2) α} :
    (owns c m q X : sProp 𝕄)
      ⊢ iprop((owns c m q X -∗ wp frame (wpE defs 𝒱 c bd) E (k fun j => X (r.emb j)) Q)
        -∗ wp frame (wpE defs 𝒱 c bd) E (.op (.load m r.toLoadRect hl) k) Q) := by
  unfold owns
  iintro ⟨%f, %hf, H⟩ HK
  subst hf
  iapply (wp_load_rect 𝒱 c bd E (m := m) (r := r) (S := m.view.set) (View.set_slice_subset _ _)) $$ H
  iintro H
  iapply HK
  iexists f
  isplitr; · ipureintro; rfl
  iexact H

/-- An indexed load continues at the values the indices name. -/
theorem own_loadIdx {m : Memref sig c.2.kind .vmem s e} {idxs : Fin s.rank → IVec t 32}
    {h : ∀ a x, (idxs a x).toNat < s.size a} {hl : m.view.Loads} {q : PosShare TreeShare} {X : s.Idx → Elt F e}
    {k : Vec F t e → Prog (TpuEff nD τ sig (Elt F) Λ c.2) α} :
    (owns c m q X : sProp 𝕄)
      ⊢ iprop((owns c m q X -∗ wp frame (wpE defs 𝒱 c bd) E (k (loadIdx X idxs h)) Q)
        -∗ wp frame (wpE defs 𝒱 c bd) E (SparseCore.vectorLoadIdx m idxs h hl >>= k) Q) := by
  unfold owns
  iintro ⟨%f, %hf, H⟩ HK
  subst hf
  iapply (SparseCore.wp_vectorLoadIdx 𝒱 c bd E (base := m) (S := m.view.set) (set_access_whole m).subset) $$ H
  iintro H
  rw [read_access_whole]
  iapply HK
  iexists f
  isplitr; · ipureintro; rfl
  iexact H

/-- An indexed store leaves the memref's values with the indices' elements replaced. -/
theorem own_storeIdx {d : Fin 1 → Nat} {m : Memref sig c.2.kind .vmem s e} {idxs : Fin s.rank → IVec ⟨1, d⟩ 32}
    {v : Vec F ⟨1, d⟩ e} {mask : IVec ⟨1, d⟩ 1} {add : Bool} {h : ∀ a x, (idxs a x).toNat < s.size a}
    {hs : (m.access (.whole s)).Stores Finset.univ} {X : s.Idx → Elt F e}
    {k : PUnit → Prog (TpuEff nD τ sig (Elt F) Λ c.2) α} :
    (owns c m fullShare X : sProp 𝕄)
      ⊢ iprop((owns c m fullShare (storeIdx X idxs v mask add h) -∗ wp frame (wpE defs 𝒱 c bd) E (k ⟨⟩) Q)
        -∗ wp frame (wpE defs 𝒱 c bd) E (SparseCore.vectorStoreIdx m idxs v mask add h hs >>= k) Q) := by
  unfold owns
  iintro ⟨%f, %hf, H⟩ HK
  subst hf
  ihave H' := (show (m.view.loc c ↦[m.view.set]{fullShare} f : sProp 𝕄)
      ⊢ ((m.access (.whole s)).loc c ↦[(m.access (.whole s)).set]{fullShare} f) from by rw [set_access_whole]) $$ H
  iapply (SparseCore.wp_vectorStoreIdx 𝒱 c bd E (base := m)) $$ H'
  iintro H
  iapply HK
  iexists _
  isplitr
  rotate_left
  · rw [set_access_whole]; iexact H
  · ipureintro
    rw [← read_access_whole, View.read_write_univ, read_access_whole]

/-- A store of a rectangle leaves the payload on the rectangle and the old values off it. -/
theorem own_store {m : Memref sig c.2.kind .vmem s e} {r : Rect s} {w : r.shape.Idx → Elt F e}
    {hx : (m.access r).Stores Finset.univ} {hm : (Finset.univ : Finset r.shape.Idx) = Finset.univ ∨ ∀ a, r.stride a = 1}
    {X : s.Idx → Elt F e} {k : PUnit → Prog (TpuEff nD τ sig (Elt F) Λ c.2) α} :
    (owns c m fullShare X : sProp 𝕄)
      ⊢ iprop((∀ X', ⌜(∀ j, X' (r.emb j) = w j) ∧ ∀ y, y ∉ r.set → X' y = X y⌝ -∗ owns c m fullShare X'
            -∗ wp frame (wpE defs 𝒱 c bd) E (k ⟨⟩) Q)
        -∗ wp frame (wpE defs 𝒱 c bd) E (.op (.store m r w Finset.univ hx hm) k) Q) := by
  unfold owns
  iintro ⟨%f, %hf, H⟩ HK
  subst hf
  iapply (wp_store 𝒱 c bd E (m := m) (r := r) (S := m.view.set) (View.set_slice_subset _ _)) $$ H
  iintro H
  iapply HK $$ %(m.view.read (Elt F) ((m.access r).write (Elt F) f w Finset.univ)) [] [H]
  · ipureintro
    refine ⟨fun j => View.read_slice_write_emb r f w (Finset.mem_univ j), fun y hy => View.read_slice_write_of_not_mem r f w _ ?_⟩
    rwa [Rect.map_emb_univ]
  · iexists _
    isplitr; · ipureintro; rfl
    iexact H

end Steps

/-! ## Transfers -/

section Dma

variable [CountersIn U] [Infinite Name]
variable {s : Shape} {e : EltTy} {sp sp' : Space}

/-- A local transfer of one memref onto another, issued: in flight, and delivering both memrefs at the source's
    values. -/
theorem own_dma {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q : PosShare TreeShare} {X Y : s.Idx → Elt F e} (ι : Ix)
    (hs : 0 < s.numel) :
    iprop(owns c src q X ∗ owns c dst fullShare Y ∗ semVal (c, sm) 0 : sProp 𝕄)
      ⊢ iprop((Transfers.Flight countersEmb c sm ι (dst.view.amount sm) iprop(owns c dst fullShare X ∗ owns c src q X)
            -∗ wp frame (wpE defs 𝒱 c bd) Set.univ (k ⟨⟩) Q)
        -∗ wp frame (wpE defs 𝒱 c bd) Set.univ (.op (.enqueueDma src (.here dst) sm hsrc hdst hsem) k) Q) := by
  have hD : ∀ fs fd, src.view.read (Elt F) fs = X →
      iprop((dst.view.loc c ↦[dst.view.set]{fullShare} (dst.view.write (Elt F) fd ((ReadAs.same : ReadAs (Elt F) s e s e).apply (src.view.read (Elt F) fs)) Finset.univ))
        ∗ (src.view.loc c ↦[src.view.set]{q} fs) : sProp 𝕄) ⊢ iprop(owns c dst fullShare X ∗ owns c src q X) := by
    intro fs fd hfs
    unfold owns
    iintro ⟨H1, H2⟩
    isplitl [H1]
    · iexists _
      isplitr
      rotate_left
      · iexact H1
      · ipureintro; rw [View.read_write_univ]; exact hfs
    · iexists fs
      isplitr; · ipureintro; exact hfs
      iexact H2
  iintro ⟨Hs, Hd, Hv⟩ HK
  ihave Hs' := (show (owns c src q X : sProp 𝕄) ⊢ iprop(∃ f, ⌜src.view.read (Elt F) f = X⌝ ∗ (src.view.loc c ↦[src.view.set]{q} f)) from .rfl) $$ Hs
  ihave Hd' := (show (owns c dst fullShare Y : sProp 𝕄) ⊢ iprop(∃ f, ⌜dst.view.read (Elt F) f = Y⌝ ∗ (dst.view.loc c ↦[dst.view.set]{fullShare} f)) from .rfl) $$ Hd
  icases Hs' with ⟨%fs, %hfs, Hs⟩
  icases Hd' with ⟨%fd, -, Hd⟩
  iapply (Transfers.wp_dmaLocal countersEmb 𝒱 c bd (src := src) (via := .same) (dst := dst) (sm := sm) (q := q) (fs := fs) (fd := fd)
      (Sd := dst.view.set) ι (dst.view.amount sm) rfl (View.amount_pos _ _ hs) (Finset.Subset.refl _)) $$ [Hs Hd Hv]
  · isplitl [Hs]; · iexact Hs
    isplitl [Hd]; · iexact Hd
    iexact Hv
  iintro HF
  iapply HK
  iapply (Transfers.Flight_mono countersEmb c (hD fs fd hfs)) $$ HF

/-- The wait for such a transfer: what it delivers, and its semaphore back at zero. -/
theorem own_wait {s' : Shape} {e' : EltTy} {κ' : Kind} {sem : DmaSem sig} {srcw : Memref sig c.2.kind sp s e}
    {dstw : Memref sig κ' sp' s' e'} {hsrc : srcw.view.WordExact} {hdst : dstw.view.WordExact} {N : ℕ}
    {k : PUnit → Prog (TpuEff nD τ sig (Elt F) Λ c.2) α} {D : sProp 𝕄} {O : CellTallies nD τ sig Ix} {W : Waits sig Ix} (ι : Ix)
    (hN : dstw.view.dmaCredit = N) :
    iprop(Transfers.Flight countersEmb c (.dma sem) ι N D ∗ Transfers.MayWaits c ι O ∗ owes c O W)
      ⊢ iprop((D ∗ semVal (c, .dma sem) 0 ∗ (∃ W', ⌜∀ p ∈ W', p ∈ W ∨ p.2 = ι⌝ ∗ owes c O W') -∗ wp frame (wpE defs 𝒱 c bd) Set.univ (k ⟨⟩) Q)
        -∗ wp frame (wpE defs 𝒱 c bd) Set.univ (.op (.waitDma2 sem srcw dstw hsrc hdst) k) Q) := by
  iintro ⟨HF, HM, HO⟩ HK
  iapply (Transfers.wp_waitLocalO countersEmb 𝒱 c bd ι hN) $$ [HF HM HO]
  · isplitl [HF]; · iexact HF
    isplitl [HO]; · iexact HO
    iapply (Transfers.MayWaits.elim (.dma sem)) $$ HM
  iintro ⟨HD, Hv, HO⟩
  iapply HK
  isplitl [HD]; · iexact HD
  isplitl [Hv]; · iexact Hv
  iexists _
  isplitr
  rotate_left
  · iexact HO
  · ipureintro
    intro p hp
    rcases Finset.mem_insert.mp hp with h | h
    · exact .inr (by rw [h])
    · exact .inl h

end Dma

end Cert.Proof.Own
-- ==== Proof.Row.lean ====
/-
  The mathematics of one clause, row by row. A row of the truth values is read at eight columns and signed; each signed
  literal's share of the clause weight is its exponential over the sum of the eight, signed again. The shares are the
  row of `delta`, and put back at their columns, with zeros elsewhere, the row of `scattered_delta`. Here: those
  functions of a row, and what a store of one column's sixteen values does to a block of rows.
-/
module

public import Idealize.ShloMosaic.Lib.PointwiseCore

@[expose] public section

noncomputable section

namespace Cert.Proof.Row

open Idealize.ShloMosaic

/-! ## One row -/

/-- The columns the clause reads, in its order. -/
def col : Fin 8 → Fin 256 := ![0, 17, 42, 100, 128, 200, 255, 60]

theorem col_inj : Function.Injective col := by decide

variable {F : FTy → Type} [FloatOps F]

/-- The signs of the literals: negated ones at the even places. -/
def sgn : Fin 8 → F .f32 := fun l =>
  Scalar.ofBits .f32 ((![0xBF800000#32, 0x3F800000#32, 0xBF800000#32, 0x3F800000#32, 0xBF800000#32, 0x3F800000#32, 0xBF800000#32,
    0x3F800000#32] : Fin 8 → BitVec 32) l)

/-- The signed literals of a row. -/
def lit (x : Fin 256 → F .f32) (l : Fin 8) : F .f32 := FloatOps.mulf (x (col l)) (sgn l)

/-- The largest of eight values, compared in order. -/
def top (z : Fin 8 → F .f32) : F .f32 :=
  FloatOps.maximumf (FloatOps.maximumf (FloatOps.maximumf (FloatOps.maximumf (FloatOps.maximumf (FloatOps.maximumf (FloatOps.maximumf
    (z 0) (z 1)) (z 2)) (z 3)) (z 4)) (z 5)) (z 6)) (z 7)

/-- The exponential of a value less the largest. -/
def expd (z : Fin 8 → F .f32) (l : Fin 8) : F .f32 := FloatOps.exp (FloatOps.subf (z l) (top z))

/-- The sum of eight values, added in order. -/
def tot (e : Fin 8 → F .f32) : F .f32 :=
  FloatOps.addf (FloatOps.addf (FloatOps.addf (FloatOps.addf (FloatOps.addf (FloatOps.addf (FloatOps.addf
    (e 0) (e 1)) (e 2)) (e 3)) (e 4)) (e 5)) (e 6)) (e 7)

/-- The row of `delta`: each literal's share of the weight `w`, as the kernel multiplies it out. -/
def delta (w : F .f32) (x : Fin 256 → F .f32) (l : Fin 8) : F .f32 :=
  FloatOps.mulf (FloatOps.mulf (expd (lit x) l) (FloatOps.divf w (tot (expd (lit x))))) (sgn l)

/-- The zero the rows of `scattered_delta` hold outside the clause's columns. -/
def zero : F .f32 := Scalar.ofBits .f32 0#32

/-- Eight values put at the clause's columns, zeros elsewhere. -/
def spread (d : Fin 8 → F .f32) (c : Fin 256) : F .f32 :=
  if h : ∃ l, col l = c then d h.choose else zero

theorem spread_col (d : Fin 8 → F .f32) (l : Fin 8) : spread d (col l) = d l := by
  have h : ∃ l', col l' = col l := ⟨l, rfl⟩
  rw [spread, dif_pos h, col_inj h.choose_spec]

theorem spread_off (d : Fin 8 → F .f32) {c : Fin 256} (h : ∀ l, col l ≠ c) : spread d c = zero :=
  dif_neg fun ⟨l, hl⟩ => h l hl

/-- The weight clipped to the interval it is kept in. -/
def clip (w : F .f32) : F .f32 :=
  FloatOps.minimumf (Scalar.ofBits .f32 0x43FA0000#32) (FloatOps.maximumf (Scalar.ofBits .f32 0#32) w)

/-! ## Blocks of rows -/

/-- Row `r` of an array of 256 columns. -/
def rowOf {R : ℕ} (X : (⟨2, ![R, 256]⟩ : Shape).Idx → F .f32) (r : Fin R) : Fin 256 → F .f32 := fun c => X (ix2 r c)

/-- `scattered_delta` of an array of rows. -/
def scattered {R : ℕ} (w : F .f32) (X : (⟨2, ![R, 256]⟩ : Shape).Idx → F .f32) : (⟨2, ![R, 256]⟩ : Shape).Idx → F .f32 :=
  fun y => spread (delta w (rowOf X (y 0))) (y 1)

/-- `delta` of an array of rows. -/
def deltas {R : ℕ} (w : F .f32) (X : (⟨2, ![R, 256]⟩ : Shape).Idx → F .f32) : (⟨2, ![R, 8]⟩ : Shape).Idx → F .f32 :=
  fun y => delta w (rowOf X (y 0)) (y 1)

/-! ## Sixteen rows' values put in one column -/

/-- An indexed store of a value per lane, lanes naming different elements: a named element holds its lane's value,
    any other what it held. -/
theorem storeIdx_apply {s : Shape} {e : EltTy} {d : Fin 1 → ℕ} (f : Vec F s e) (idxs : Fin s.rank → IVec ⟨1, d⟩ 32)
    (v : Vec F ⟨1, d⟩ e) (h : ∀ a x, (idxs a x).toNat < s.size a)
    (hinj : ∀ k k' : Fin (d 0), idxAt idxs h (Shape.ofLane k) = idxAt idxs h (Shape.ofLane k') → k = k') :
    (∀ k, storeIdx f idxs v (fun _ => 1#1) false h (idxAt idxs h (Shape.ofLane k)) = v (Shape.ofLane k))
      ∧ ∀ y, (∀ k, idxAt idxs h (Shape.ofLane k) ≠ y) → storeIdx f idxs v (fun _ => 1#1) false h y = f y := by
  have key : ∀ (L : List (Fin (d 0))) (g : Vec F s e), L.Nodup →
      let r := L.foldl (fun (g : Vec F s e) k => fun j : s.Idx =>
        if (∀ a, (j a).val = (idxAt idxs h (Shape.ofLane k) a).val) then v (Shape.ofLane k) else g j) g
      (∀ k ∈ L, r (idxAt idxs h (Shape.ofLane k)) = v (Shape.ofLane k))
        ∧ ∀ y, (∀ k ∈ L, idxAt idxs h (Shape.ofLane k) ≠ y) → r y = g y := by
    intro L
    induction L with
    | nil => intro g _; exact ⟨fun k hk => (nomatch hk), fun _ _ => rfl⟩
    | cons a L ih =>
      intro g hnd
      obtain ⟨ha, hL⟩ := List.nodup_cons.mp hnd
      obtain ⟨h1, h2⟩ := ih (fun j : s.Idx =>
        if (∀ b, (j b).val = (idxAt idxs h (Shape.ofLane a) b).val) then v (Shape.ofLane a) else g j) hL
      refine ⟨fun k hk => ?_, fun y hy => ?_⟩
      · rcases List.mem_cons.mp hk with rfl | hk
        · refine (h2 _ fun k' hk' he => ha ?_).trans (if_pos fun _ => rfl)
          rwa [← hinj _ _ he]
        · exact h1 k hk
      · refine (h2 y fun k hk => hy k (List.mem_cons_of_mem _ hk)).trans (if_neg fun he => hy a List.mem_cons_self ?_)
        funext b
        exact Fin.ext (he b).symm
  obtain ⟨h1, h2⟩ := key (List.finRange (d 0)) f (List.nodup_finRange _)
  have hf : storeIdx f idxs v (fun _ => 1#1) false h = (List.finRange (d 0)).foldl (fun (g : Vec F s e) k => fun j : s.Idx =>
      if (∀ a, (j a).val = (idxAt idxs h (Shape.ofLane k) a).val) then v (Shape.ofLane k) else g j) f := by
    simp only [storeIdx, Bool.false_eq_true, if_false]
    rfl
  rw [hf]
  exact ⟨fun k => h1 k (List.mem_finRange k), fun y hy => h2 y fun k _ => hy k⟩

/-- A block with sixteen values put in column `c` of its rows `16 g, …, 16 g + 15`. -/
def put {C : ℕ} (g : ℕ) (c : ℕ) (v : (⟨1, ![16]⟩ : Shape).Idx → F .f32) (X : (⟨2, ![64, C]⟩ : Shape).Idx → F .f32) :
    (⟨2, ![64, C]⟩ : Shape).Idx → F .f32 :=
  fun y => if (y 0).val / 16 = g ∧ (y 1).val = c then v (ix1 ⟨(y 0).val % 16, Nat.mod_lt _ (by decide)⟩) else X y

/-- The rows and the column the lanes of a group name lie in the block. -/
theorem lanes_lt {C : ℕ} {g : ℕ} (hg : g < 4) {rows cols : IVec (⟨1, ![16]⟩ : Shape) 32} {c : ℕ} (hc : c < C)
    (hr : ∀ j, (rows j).toNat = 16 * g + (j 0).val) (hcol : ∀ j, (cols j).toNat = c) :
    ∀ (a : Fin 2) x, ((![rows, cols] : Fin 2 → IVec (⟨1, ![16]⟩ : Shape) 32) a x).toNat < (⟨2, ![64, C]⟩ : Shape).size a
  | 0, x => by
    have hx : (x 0).val < 16 := (x 0).isLt
    show (rows x).toNat < 64
    rw [hr]; omega
  | 1, x => by
    show (cols x).toNat < C
    rw [hcol]; exact hc

/-- The store of a group's lanes in one column is `put`. -/
theorem storeIdx_put {C : ℕ} {g : ℕ} {rows cols : IVec (⟨1, ![16]⟩ : Shape) 32} {c : ℕ}
    (hr : ∀ j, (rows j).toNat = 16 * g + (j 0).val) (hcol : ∀ j, (cols j).toNat = c)
    (X : (⟨2, ![64, C]⟩ : Shape).Idx → F .f32) (v : (⟨1, ![16]⟩ : Shape).Idx → F .f32)
    (h : ∀ (a : Fin 2) x, ((![rows, cols] : Fin 2 → IVec (⟨1, ![16]⟩ : Shape) 32) a x).toNat < (⟨2, ![64, C]⟩ : Shape).size a) :
    storeIdx (s := ⟨2, ![64, C]⟩) (e := .f32) (d := ![16]) X ![rows, cols] v (fun _ => 1#1) false h = put g c v X := by
  have h0 : ∀ k : Fin 16, (idxAt (s := ⟨2, ![64, C]⟩) ![rows, cols] h (Shape.ofLane (d := ![16]) k) 0).val = 16 * g + k.val :=
    fun k => hr _
  have h1 : ∀ k : Fin 16, (idxAt (s := ⟨2, ![64, C]⟩) ![rows, cols] h (Shape.ofLane (d := ![16]) k) 1).val = c := fun k => hcol _
  obtain ⟨ha, hb⟩ := storeIdx_apply (s := ⟨2, ![64, C]⟩) (e := .f32) (d := ![16]) X ![rows, cols] v h
    (fun k k' he => by
      have := congrArg (fun i => (i 0).val) he
      rw [show (idxAt (s := ⟨2, ![64, C]⟩) ![rows, cols] h (Shape.ofLane (d := ![16]) k) 0).val = _ from h0 k,
        show (idxAt (s := ⟨2, ![64, C]⟩) ![rows, cols] h (Shape.ofLane (d := ![16]) k') 0).val = _ from h0 k'] at this
      exact Fin.ext (by omega))
  funext y
  have hy0 : (y 0).val < 64 := (y 0).isLt
  by_cases hy : (y 0).val / 16 = g ∧ (y 1).val = c
  · have hk : (y 0).val % 16 < 16 := Nat.mod_lt _ (by decide)
    have he : y = idxAt (s := ⟨2, ![64, C]⟩) ![rows, cols] h (Shape.ofLane (d := ![16]) ⟨(y 0).val % 16, hk⟩) := by
      funext a
      match a with
      | 0 => exact Fin.ext ((by have := hy.1; show (y 0).val = 16 * g + (y 0).val % 16; omega : (y 0).val = _).trans (h0 ⟨_, hk⟩).symm)
      | 1 => exact Fin.ext (hy.2.trans (h1 ⟨_, hk⟩).symm)
    rw [put, if_pos hy]
    exact (congrArg _ he).trans ((ha ⟨_, hk⟩).trans (congrArg v (funext fun a => match a with | 0 => rfl)))
  · rw [put, if_neg hy]
    refine hb y fun k he => hy ?_
    subst he
    have hk : k.val < 16 := k.isLt
    exact ⟨by rw [h0 k]; omega, h1 k⟩

/-! ## What a block holds after some of its groups of sixteen rows -/

/-- Outside the clause's columns the block is zero. -/
def Clear (X : (⟨2, ![64, 256]⟩ : Shape).Idx → F .f32) : Prop := ∀ y, (∀ l, col l ≠ y 1) → X y = zero

/-- After `g` groups: the rows done hold `scattered_delta`, and outside the clause's columns all rows hold zero. -/
def Scat (w : F .f32) (I : (⟨2, ![64, 256]⟩ : Shape).Idx → F .f32) (g : ℕ) (X : (⟨2, ![64, 256]⟩ : Shape).Idx → F .f32) : Prop :=
  Clear X ∧ ∀ y, (y 0).val < 16 * g → X y = scattered w I y

/-- After `g` groups: the rows done hold `delta`. -/
def Delt (w : F .f32) (I : (⟨2, ![64, 256]⟩ : Shape).Idx → F .f32) (g : ℕ) (X : (⟨2, ![64, 8]⟩ : Shape).Idx → F .f32) : Prop :=
  ∀ y, (y 0).val < 16 * g → X y = deltas w I y

theorem Scat.start {w : F .f32} {I X : (⟨2, ![64, 256]⟩ : Shape).Idx → F .f32} (h : Clear X) : Scat w I 0 X :=
  ⟨h, fun _ hy => absurd hy (Nat.not_lt_zero _)⟩

theorem Delt.start {w : F .f32} {I : (⟨2, ![64, 256]⟩ : Shape).Idx → F .f32} {X : (⟨2, ![64, 8]⟩ : Shape).Idx → F .f32} : Delt w I 0 X :=
  fun _ hy => absurd hy (Nat.not_lt_zero _)

theorem Scat.done {w : F .f32} {I X : (⟨2, ![64, 256]⟩ : Shape).Idx → F .f32} (h : Scat w I 4 X) : X = scattered w I :=
  funext fun y => h.2 y (y 0).isLt

theorem Delt.done {w : F .f32} {I : (⟨2, ![64, 256]⟩ : Shape).Idx → F .f32} {X : (⟨2, ![64, 8]⟩ : Shape).Idx → F .f32}
    (h : Delt w I 4 X) : X = deltas w I :=
  funext fun y => h y (y 0).isLt

/-- `scattered_delta` is zero outside the clause's columns. -/
theorem clear_scattered (w : F .f32) (I : (⟨2, ![64, 256]⟩ : Shape).Idx → F .f32) : Clear (scattered w I) :=
  fun _ hy => spread_off _ hy

/-- Eight puts in the clause's columns do the next group of `scattered_delta`. -/
theorem Scat.step {w : F .f32} {I X : (⟨2, ![64, 256]⟩ : Shape).Idx → F .f32} {g : ℕ} (hX : Scat w I g X)
    {v : Fin 8 → (⟨1, ![16]⟩ : Shape).Idx → F .f32}
    (hv : ∀ l (r : Fin 64), r.val / 16 = g → v l (ix1 ⟨r.val % 16, Nat.mod_lt _ (by decide)⟩) = delta w (rowOf I r) l) :
    Scat w I (g + 1) (put g 60 (v 7) (put g 255 (v 6) (put g 200 (v 5) (put g 128 (v 4) (put g 100 (v 3) (put g 42 (v 2)
      (put g 17 (v 1) (put g 0 (v 0) X)))))))) := by
  have hoff : ∀ (y : (⟨2, ![64, 256]⟩ : Shape).Idx), ¬ ((y 0).val / 16 = g ∧ ∃ l, col l = y 1) →
      put g 60 (v 7) (put g 255 (v 6) (put g 200 (v 5) (put g 128 (v 4) (put g 100 (v 3) (put g 42 (v 2)
      (put g 17 (v 1) (put g 0 (v 0) X))))))) y = X y := by
    intro y hy
    have hn : ∀ l : Fin 8, ¬ ((y 0).val / 16 = g ∧ (y 1).val = (col l).val) := fun l h => hy ⟨h.1, l, Fin.ext h.2.symm⟩
    simp only [put]
    exact (if_neg (hn 7)).trans ((if_neg (hn 6)).trans ((if_neg (hn 5)).trans ((if_neg (hn 4)).trans ((if_neg (hn 3)).trans
      ((if_neg (hn 2)).trans ((if_neg (hn 1)).trans (if_neg (hn 0))))))))
  have hon : ∀ (y : (⟨2, ![64, 256]⟩ : Shape).Idx), (y 0).val / 16 = g → ∀ l, col l = y 1 →
      put g 60 (v 7) (put g 255 (v 6) (put g 200 (v 5) (put g 128 (v 4) (put g 100 (v 3) (put g 42 (v 2)
      (put g 17 (v 1) (put g 0 (v 0) X))))))) y = delta w (rowOf I (y 0)) l := by
    intro y hy l hl
    have hv' := hv l (y 0) hy
    rw [← hv']
    have hl' : (y 1).val = (col l).val := congrArg Fin.val hl.symm
    simp only [put, hy, hl', true_and]
    fin_cases l <;> rfl
  refine ⟨fun y hy => (hoff y fun h => ?_).trans (hX.1 y hy), fun y hy => ?_⟩
  · obtain ⟨-, l, hl⟩ := h
    exact hy l hl
  · by_cases h : ∃ l, col l = y 1
    · by_cases hg : (y 0).val / 16 = g
      · obtain ⟨l, hl⟩ := h
        rw [hon y hg l hl, scattered, ← hl, spread_col]
      · rw [hoff y fun h => hg h.1]
        exact hX.2 y (by omega)
    · rw [hoff y fun h' => h h'.2, hX.1 y fun l hl => h ⟨l, hl⟩]
      exact (spread_off _ fun l hl => h ⟨l, hl⟩).symm

/-- Eight puts in the eight columns do the next group of `delta`. -/
theorem Delt.step {w : F .f32} {I : (⟨2, ![64, 256]⟩ : Shape).Idx → F .f32} {X : (⟨2, ![64, 8]⟩ : Shape).Idx → F .f32} {g : ℕ}
    (hX : Delt w I g X) {v : Fin 8 → (⟨1, ![16]⟩ : Shape).Idx → F .f32}
    (hv : ∀ l (r : Fin 64), r.val / 16 = g → v l (ix1 ⟨r.val % 16, Nat.mod_lt _ (by decide)⟩) = delta w (rowOf I r) l) :
    Delt w I (g + 1) (put g 7 (v 7) (put g 6 (v 6) (put g 5 (v 5) (put g 4 (v 4) (put g 3 (v 3) (put g 2 (v 2)
      (put g 1 (v 1) (put g 0 (v 0) X)))))))) := by
  intro y hy
  by_cases hg : (y 0).val / 16 = g
  · have hv' := hv (y 1) (y 0) hg
    rw [deltas, ← hv']
    simp only [put, hg, true_and]
    generalize y 1 = l
    change Fin 8 at l
    fin_cases l <;> rfl
  · simp only [put, hg, false_and, if_false]
    exact hX y (by omega)

end Cert.Proof.Row

end
-- ==== Proof.Column.lean ====
/-
  The pieces of one pass of a tile's inner loop: the checked load and the checked store of one column of sixteen rows,
  and what the vectors the pass stores hold.
-/
module

public import proofs.«01_k».proof.Defs
public import proofs.«01_k».proof.Proof.Own
public import proofs.«01_k».proof.Proof.Row
public import proofs.«01_k».proof.Proof.Gen.KernelIdeal
public import proofs.«01_k».proof.Proof.Gen.KernelIdeal.Skeleton
public import Idealize.ShloMosaic.Lib.SparseCore.Ops
public import Idealize.ShloMosaic.Lib.Tactic

@[expose] public section

noncomputable section

namespace Cert.Proof.Column

open Cert.KernelIdeal Cert.KernelIdeal.Gen Cert.Proof.Own Cert.Proof.Row

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## Steps on a column of sixteen rows -/

section Columns

variable {Λ : Labels} {defs : Defs nD τ sig (Elt F) Λ} (𝒱 : Variants) (c : Thread nD τ) (bd : Option 𝒱.V) (E : Set Name)
variable {α : Type} {Q : α → sProp (MT nD τ sig Ix (Elt F) Name U Lvl)}

/-- The check of a load's indices and the load: the check passes where the indices lie inside. -/
theorem look {s t : Shape} {e : EltTy} {m : Memref sig c.2.kind .vmem s e} {idxs : Fin s.rank → IVec t 32} {P : Prop} {dec : Decidable P} (hP : P)
    {hi : P → ∀ a x, (idxs a x).toNat < s.size a} {hl : m.view.Loads} {q : PosShare TreeShare} {X : s.Idx → Elt F e}
    {k : Vec F t e → Prog (TpuEff nD τ sig (Elt F) Λ c.2) α} :
    (owns c m q X : sProp 𝕄)
      ⊢ iprop((owns c m q X -∗ wp frame (wpE defs 𝒱 c bd) E (k (loadIdx X idxs (hi hP))) Q)
        -∗ wp frame (wpE defs 𝒱 c bd) E (.op (.assume P dec) fun h => SparseCore.vectorLoadIdx m idxs (hi h.down) hl >>= k) Q) := by
  rw [wp_assume_of 𝒱 c bd E hP]
  exact own_loadIdx 𝒱 c bd E

/-- The check of a store's indices and the store, of a value per lane in one column: `put`. -/
theorem putCol {C : ℕ} {g : ℕ} {b : ℕ} {m : Memref sig c.2.kind .vmem ⟨2, ![64, C]⟩ .f32}
    {rows cols : IVec (⟨1, ![16]⟩ : Shape) 32} (hr : ∀ j, (rows j).toNat = 16 * g + (j 0).val) (hcol : ∀ j, (cols j).toNat = b)
    {P : Prop} {dec : Decidable P} (hP : P)
    {hi : P → ∀ (a : Fin 2) x, ((![rows, cols] : Fin 2 → IVec (⟨1, ![16]⟩ : Shape) 32) a x).toNat < (⟨2, ![64, C]⟩ : Shape).size a}
    {hs : (m.access (.whole ⟨2, ![64, C]⟩)).Stores Finset.univ} {v : (⟨1, ![16]⟩ : Shape).Idx → F .f32}
    {X : (⟨2, ![64, C]⟩ : Shape).Idx → F .f32} {k : PUnit → Prog (TpuEff nD τ sig (Elt F) Λ c.2) α} :
    (owns c m fullShare X : sProp 𝕄)
      ⊢ iprop((owns c m fullShare (put g b v X) -∗ wp frame (wpE defs 𝒱 c bd) E (k ⟨⟩) Q)
        -∗ wp frame (wpE defs 𝒱 c bd) E (.op (.assume P dec) fun h =>
            SparseCore.vectorStoreIdx (d := ![16]) m ![rows, cols] v (fun _ => 1#1) false (hi h.down) hs >>= k) Q) := by
  rw [wp_assume_of 𝒱 c bd E hP]
  have h := own_storeIdx (Ix := Ix) (Name := Name) (U := U) (Lvl := Lvl) (defs := defs) 𝒱 c bd E (d := ![16]) (m := m) (idxs := ![rows, cols])
    (v := v) (mask := fun _ => 1#1) (add := false) (h := hi hP) (hs := hs) (X := X) (k := k) (Q := Q)
  rw [storeIdx_put hr hcol] at h
  exact h

end Columns

/-! ## What the payloads compute -/

/-- The eight stored vectors, from the eight loaded ones and the weight. -/
def vals (v7 : FVec F S16 .f32) (a : Fin 8 → FVec F S16 .f32) : Fin 8 → FVec F S16 .f32 :=
  let P (p : FVec F S16 .f32 → FVec F S16 .f32 → FVec F S16 .f32 → FVec F S16 .f32 → FVec F S16 .f32 → FVec F S16 .f32 → FVec F S16 .f32
      → FVec F S16 .f32 → FVec F S16 .f32 → FVec F S16 .f32) : FVec F S16 .f32 :=
    p (a 7) (k0_pay2 (a 0)) (k0_pay3 (a 1)) (k0_pay4 (a 2)) (k0_pay5 (a 3)) (k0_pay6 (a 4)) (k0_pay7 (a 5)) (k0_pay8 (a 6)) k0_pay9
  ![P (k0_pay21 v7), P (k0_pay22 v7), P (k0_pay23 v7), k0_pay24 (P k0_pay15) (P (k0_pay20 v7)), k0_pay25 (P k0_pay16) (P (k0_pay20 v7)),
    k0_pay26 (P k0_pay17) (P (k0_pay20 v7)), k0_pay27 (P k0_pay18) (P (k0_pay20 v7)), k0_pay28 (P k0_pay19) (P (k0_pay20 v7))]

theorem vals_apply (v7 : FVec F S16 .f32) (a : Fin 8 → FVec F S16 .f32) (l : Fin 8) (j : S16.Idx) {w : F .f32} {x : Fin 256 → F .f32}
    (hw : v7 j = w) (ha : ∀ l, a l j = x (col l)) : vals v7 a l j = delta w x l := by
  have hz : (fun l' => FloatOps.mulf (a l' j) (sgn l')) = lit x := funext fun l' => by rw [ha]; rfl
  subst hw
  rw [delta, ← hz]
  fin_cases l <;> rfl

/-- The lanes' rows: lane `j` of pass `t` reads row `16 t + j`. -/
theorem rows_toNat (t : Fin k0_t3_loop.trips) (j : S16.Idx) :
    (k0_pay1 (iota .scVector S16 32 [0] iota_S16_d0_w32_scVector) 0#32 1#32 t j).toNat = 16 * t.val + (j 0).val := by
  have ht : t.val < 4 := lt_of_lt_of_le t.isLt k0_t3_abs.2.1
  have hj : (j 0).val < 16 := (j 0).isLt
  obtain ⟨t, htl⟩ := t
  change t < 4 at ht
  have hi : iota .scVector S16 32 [0] iota_S16_d0_w32_scVector j = BitVec.ofNat 32 (j 0).val := by
    show BitVec.ofNat 32 (0 * S16.size 0 + (j 0).val) = _
    rw [Nat.zero_mul, Nat.zero_add]
  show (Scalar.muli (Scf.iv 0#32 1#32 t) 16#32 + iota .scVector S16 32 [0] iota_S16_d0_w32_scVector j).toNat = 16 * t + (j 0).val
  rw [hi]
  have h1 : (Scalar.muli (Scf.iv 0#32 1#32 t) 16#32).toNat = 16 * t := by
    interval_cases t <;> decide
  rw [BitVec.toNat_add, h1, BitVec.toNat_ofNat]
  omega

end Cert.Proof.Column

end
-- ==== Proof.Group.lean ====
/-
  One pass of a tile's inner loop: sixteen rows of the staged block are read at the clause's columns, a lane per row,
  and the shares computed from them are put in the two staged result blocks. The pass is stated of the staged blocks
  owned at their contents; the pass of the second pair of blocks is the same text over other buffers.
-/
module

public import proofs.«01_k».proof.Defs
public import proofs.«01_k».proof.Proof.Own
public import proofs.«01_k».proof.Proof.Row
public import proofs.«01_k».proof.Proof.Column
public import proofs.«01_k».proof.Proof.Gen.KernelIdeal
public import proofs.«01_k».proof.Proof.Gen.KernelIdeal.Skeleton
public import Idealize.ShloMosaic.Lib.SparseCore.Ops
public import Idealize.ShloMosaic.Lib.Tactic

@[expose] public section

noncomputable section

namespace Cert.Proof.Group

open Cert.KernelIdeal Cert.KernelIdeal.Gen Cert.Proof.Own Cert.Proof.Row Cert.Proof.Column

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The pass -/

section Pass

variable (i : grid0.Coords) (arg2 : Memref sig .scVector .hbm S65536x256 .f32) (harg2 : arg2.IsWhole) (arg3 : Memref sig .scVector .hbm S16 .f32)
  (harg3 : arg3.IsWhole) (arg4 : Memref sig .scVector .hbm S65536x256 .f32) (harg4 : arg4.IsWhole) (arg5 : Memref sig .scVector .hbm S65536x8 .f32)
  (harg5 : arg5.IsWhole) (arg6 : Memref sig .scVector .vmem S64x256 .f32) (harg6 : arg6.IsWhole) (arg7 : Memref sig .scVector .vmem S64x256 .f32)
  (harg7 : arg7.IsWhole) (arg8 : Memref sig .scVector .vmem S64x256 .f32) (harg8 : arg8.IsWhole) (arg9 : Memref sig .scVector .vmem S64x256 .f32)
  (harg9 : arg9.IsWhole) (arg10 : Memref sig .scVector .vmem S64x8 .f32) (harg10 : arg10.IsWhole) (arg11 : Memref sig .scVector .vmem S64x8 .f32)
  (harg11 : arg11.IsWhole) (arg12 : Memref sig .scVector .vmem S16 .f32) (harg12 : arg12.IsWhole)
  (arg13 arg14 arg15 arg16 arg17 arg18 v30_r0 : DmaSems sig S_)
  (d : Dev nD) (𝒱 : Variants) (bd : Option 𝒱.V) (E : Set Name)

/-- The tile of coordinates `i`, as a thread. -/
abbrev thr : Thread nD τ := V d ((i 0).castLE hcore0) ((i 1).castLE hsub0)

set_option maxHeartbeats 4000000 in
/-- A pass of the first pair of blocks: from the groups before it done to this one done. -/
theorem pass (v2 : BitVec 32) (v7 : FVec F S16 .f32) (w : F .f32) (hw : ∀ j, v7 j = w) (c0 c1 : BitVec 32) (t2 : Fin k0_t2_loop.trips)
    (t : Fin k0_t3_loop.trips) (acc : BitVec 32) {q : PosShare TreeShare} (I X : S64x256.Idx → F .f32) (Y : S64x8.Idx → F .f32)
    (hX : Scat w I t.val X) (hY : Delt w I t.val Y) :
    (iprop(owns (thr i d) arg6 q I ∗ owns (thr i d) arg8 fullShare X ∗ owns (thr i d) arg10 fullShare Y) : sProp 𝕄)
      ⊢ wp frame (wpE (defs₀ (F := F)) 𝒱 (thr i d) bd) E
          (k0_t3_body i arg2 harg2 arg3 harg3 arg4 harg4 arg5 harg5 arg6 harg6 arg7 harg7 arg8 harg8 arg9 harg9 arg10 harg10 arg11 harg11
            arg12 harg12 arg13 arg14 arg15 arg16 arg17 arg18 v30_r0 v2 v7 (iota .scVector S16 32 [0] iota_S16_d0_w32_scVector) c0 c1 t2 t acc)
          fun _ => iprop(owns (thr i d) arg6 q I ∗ (∃ X', ⌜Scat w I (t.val + 1) X'⌝ ∗ owns (thr i d) arg8 fullShare X')
            ∗ (∃ Y', ⌜Delt w I (t.val + 1) Y'⌝ ∗ owns (thr i d) arg10 fullShare Y')) := by
  have hg : t.val < 4 := lt_of_lt_of_le t.isLt k0_t3_abs.2.1
  have hr := rows_toNat t
  unfold k0_t3_body
  simp only [k0_part3_eq_skeleton, k0_part4_eq_skeleton, k0_part5_eq_skeleton]
  unfold k0_part3_skel k0_part4_skel k0_part5_skel
  simp only [Prog.lift, Prog.bind_op, Prog.bind_ret, Prog.pure_eq_ret, Prog.bind_assoc]
  generalize k0_pay1 (iota .scVector S16 32 [0] iota_S16_d0_w32_scVector) 0#32 1#32 t = v74 at hr ⊢
  have hin : ∀ (n : BitVec 32), n.toNat < 256 → ∀ (a : Fin 2) x,
      ((![v74, broadcast S16 n] : Fin 2 → IVec S16 32) a x).toNat < S64x256.size a :=
    fun n hn => lanes_lt hg hn hr fun _ => rfl
  have hin8 : ∀ (n : BitVec 32), n.toNat < 8 → ∀ (a : Fin 2) x,
      ((![v74, broadcast S16 n] : Fin 2 → IVec S16 32) a x).toNat < S64x8.size a :=
    fun n hn => lanes_lt hg hn hr fun _ => rfl
  iintro ⟨HI, HX, HY⟩
  iapply (look 𝒱 (thr i d) bd E (hin 0#32 (by decide))) $$ HI; iintro HI
  iapply (look 𝒱 (thr i d) bd E (hin 17#32 (by decide))) $$ HI; iintro HI
  iapply (look 𝒱 (thr i d) bd E (hin 42#32 (by decide))) $$ HI; iintro HI
  iapply (look 𝒱 (thr i d) bd E (hin 100#32 (by decide))) $$ HI; iintro HI
  iapply (look 𝒱 (thr i d) bd E (hin 128#32 (by decide))) $$ HI; iintro HI
  iapply (look 𝒱 (thr i d) bd E (hin 200#32 (by decide))) $$ HI; iintro HI
  iapply (look 𝒱 (thr i d) bd E (hin 255#32 (by decide))) $$ HI; iintro HI
  iapply (look 𝒱 (thr i d) bd E (hin 60#32 (by decide))) $$ HI; iintro HI
  iapply (putCol 𝒱 (thr i d) bd E (b := 0) (cols := broadcast S16 0#32) hr (fun _ => rfl) (hin 0#32 (by decide))) $$ HX; iintro HX
  iapply (putCol 𝒱 (thr i d) bd E (b := 0) (cols := broadcast S16 0#32) hr (fun _ => rfl) (hin8 0#32 (by decide))) $$ HY; iintro HY
  iapply (putCol 𝒱 (thr i d) bd E (b := 17) (cols := broadcast S16 17#32) hr (fun _ => rfl) (hin 17#32 (by decide))) $$ HX; iintro HX
  iapply (putCol 𝒱 (thr i d) bd E (b := 1) (cols := broadcast S16 1#32) hr (fun _ => rfl) (hin8 1#32 (by decide))) $$ HY; iintro HY
  iapply (putCol 𝒱 (thr i d) bd E (b := 42) (cols := broadcast S16 42#32) hr (fun _ => rfl) (hin 42#32 (by decide))) $$ HX; iintro HX
  iapply (putCol 𝒱 (thr i d) bd E (b := 2) (cols := broadcast S16 2#32) hr (fun _ => rfl) (hin8 2#32 (by decide))) $$ HY; iintro HY
  iapply (putCol 𝒱 (thr i d) bd E (b := 100) (cols := broadcast S16 100#32) hr (fun _ => rfl) (hin 100#32 (by decide))) $$ HX; iintro HX
  iapply (putCol 𝒱 (thr i d) bd E (b := 3) (cols := broadcast S16 3#32) hr (fun _ => rfl) (hin8 3#32 (by decide))) $$ HY; iintro HY
  iapply (putCol 𝒱 (thr i d) bd E (b := 128) (cols := broadcast S16 128#32) hr (fun _ => rfl) (hin 128#32 (by decide))) $$ HX; iintro HX
  iapply (putCol 𝒱 (thr i d) bd E (b := 4) (cols := broadcast S16 4#32) hr (fun _ => rfl) (hin8 4#32 (by decide))) $$ HY; iintro HY
  iapply (putCol 𝒱 (thr i d) bd E (b := 200) (cols := broadcast S16 200#32) hr (fun _ => rfl) (hin 200#32 (by decide))) $$ HX; iintro HX
  iapply (putCol 𝒱 (thr i d) bd E (b := 5) (cols := broadcast S16 5#32) hr (fun _ => rfl) (hin8 5#32 (by decide))) $$ HY; iintro HY
  iapply (putCol 𝒱 (thr i d) bd E (b := 255) (cols := broadcast S16 255#32) hr (fun _ => rfl) (hin 255#32 (by decide))) $$ HX; iintro HX
  iapply (putCol 𝒱 (thr i d) bd E (b := 6) (cols := broadcast S16 6#32) hr (fun _ => rfl) (hin8 6#32 (by decide))) $$ HY; iintro HY
  iapply (putCol 𝒱 (thr i d) bd E (b := 60) (cols := broadcast S16 60#32) hr (fun _ => rfl) (hin 60#32 (by decide))) $$ HX; iintro HX
  iapply (putCol 𝒱 (thr i d) bd E (b := 7) (cols := broadcast S16 7#32) hr (fun _ => rfl) (hin8 7#32 (by decide))) $$ HY; iintro HY
  have hv : ∀ l (r : Fin 64), r.val / 16 = t.val →
      vals v7 (fun l => loadIdx (e := .f32) I ![v74, broadcast S16 ((![0#32, 17#32, 42#32, 100#32, 128#32, 200#32, 255#32, 60#32] : Fin 8 → BitVec 32) l)]
          (hin _ (by fin_cases l <;> decide))) l (ix1 ⟨r.val % 16, Nat.mod_lt _ (by decide)⟩) = delta w (rowOf I r) l := by
    intro l r hrt
    refine vals_apply v7 _ l _ (hw _) fun l' => congrArg I (funext fun a => ?_)
    match a with
    | 0 =>
      refine Fin.ext ((hr _).trans ?_)
      show 16 * t.val + r.val % 16 = r.val
      omega
    | 1 => exact Fin.ext (by fin_cases l' <;> rfl)
  have hX' := hX.step hv
  have hY' := hY.step hv
  simp only [vals, Matrix.cons_val, Fin.isValue] at hX' hY'
  rw [wp_ret]; imodintro
  isplitl [HI]; · iexact HI
  isplitl [HX]
  · iexists _
    isplitr
    rotate_left
    · iexact HX
    · ipureintro
      exact hX'
  · iexists _
    isplitr
    rotate_left
    · iexact HY
    · ipureintro
      exact hY'

set_option maxHeartbeats 4000000 in
/-- The pass over the second pair of blocks is the pass over the first, with the blocks exchanged. -/
theorem second_eq (v2 : BitVec 32) (v3 : Vec F S16 .f32) (v8 : IVec S16 32) (c0 c1 : BitVec 32) (t2 : Fin k0_t2_loop.trips)
    (t : Fin k0_t3_loop.trips) (acc : BitVec 32) :
    k0_t4_body i arg2 harg2 arg3 harg3 arg4 harg4 arg5 harg5 arg6 harg6 arg7 harg7 arg8 harg8 arg9 harg9 arg10 harg10 arg11 harg11
        arg12 harg12 arg13 arg14 arg15 arg16 arg17 arg18 v30_r0 v3 v8 t acc
      = k0_t3_body (F := F) i arg2 harg2 arg3 harg3 arg4 harg4 arg5 harg5 arg7 harg7 arg6 harg6 arg9 harg9 arg8 harg8 arg11 harg11 arg10 harg10
        arg12 harg12 arg13 arg14 arg15 arg16 arg17 arg18 v30_r0 v2 (k0_pay57 v3) v8 c0 c1 t2 t acc := by
  unfold k0_t3_body k0_t4_body
  simp only [k0_part3_eq_skeleton, k0_part4_eq_skeleton, k0_part5_eq_skeleton, k0_part6_eq_skeleton, k0_part7_eq_skeleton, k0_part8_eq_skeleton]
  rfl

/-! ## The four passes over a block -/

/-- The four passes over the first pair of blocks: the result blocks hold the whole of `scattered_delta` and `delta`. -/
theorem block (v2 : BitVec 32) (v7 : FVec F S16 .f32) (w : F .f32) (hw : ∀ j, v7 j = w) (c0 c1 : BitVec 32) (t2 : Fin k0_t2_loop.trips)
    {q : PosShare TreeShare} (I : S64x256.Idx → F .f32) {α : Type} {Q : α → sProp 𝕄}
    {kk : BitVec 32 → Prog (TpuEff nD τ sig (Elt F) Λ₀ (.scVector ((i 0).castLE hcore0) ((i 1).castLE hsub0))) α} :
    (iprop(owns (thr i d) arg6 q I ∗ (∃ X, ⌜Clear X⌝ ∗ owns (thr i d) arg8 fullShare X) ∗ (∃ Y, owns (thr i d) arg10 fullShare Y)) : sProp 𝕄)
      ⊢ iprop((∀ acc, owns (thr i d) arg6 q I ∗ owns (thr i d) arg8 fullShare (scattered w I) ∗ owns (thr i d) arg10 fullShare (deltas w I)
            -∗ wp frame (wpE (defs₀ (F := F)) 𝒱 (thr i d) bd) E (kk acc) Q)
        -∗ wp frame (wpE (defs₀ (F := F)) 𝒱 (thr i d) bd) E
          (Scf.Loop.for k0_t3_loop k0_t3_ok 0#32 (k0_t3_body i arg2 harg2 arg3 harg3 arg4 harg4 arg5 harg5 arg6 harg6 arg7 harg7 arg8 harg8 arg9 harg9 arg10 harg10 arg11 harg11
            arg12 harg12 arg13 arg14 arg15 arg16 arg17 arg18 v30_r0 v2 v7
            (iota .scVector S16 32 [0] iota_S16_d0_w32_scVector) c0 c1 t2) >>= kk) Q) := by
  iintro ⟨HI, ⟨%X, %hX, HX⟩, ⟨%Y, HY⟩⟩ HK
  iapply (Scf.wp_for_bind frame (wpE (defs₀ (F := F)) 𝒱 (thr i d) bd) E _ _ _ k0_t3_ok 0#32 _
    (fun n _ => iprop(owns (thr i d) arg6 q I ∗ (∃ X, ⌜Scat w I n X⌝ ∗ owns (thr i d) arg8 fullShare X)
      ∗ (∃ Y, ⌜Delt w I n Y⌝ ∗ owns (thr i d) arg10 fullShare Y))) ?hb) $$ [HI HX HY]
  case hb =>
    intro t acc
    iintro ⟨HI, ⟨%X, %hX, HX⟩, ⟨%Y, %hY, HY⟩⟩
    iapply (pass i arg2 harg2 arg3 harg3 arg4 harg4 arg5 harg5 arg6 harg6 arg7 harg7 arg8 harg8 arg9 harg9 arg10 harg10 arg11 harg11
            arg12 harg12 arg13 arg14 arg15 arg16 arg17 arg18 v30_r0 d 𝒱 bd E v2 v7 w hw c0 c1 t2 t acc I X Y hX hY)
    isplitl [HI]; · iexact HI
    isplitl [HX] <;> iassumption
  · isplitl [HI]; · iexact HI
    isplitl [HX]
    · iexists X
      isplitr; · ipureintro; exact Scat.start hX
      iexact HX
    · iexists Y
      isplitr; · ipureintro; exact Delt.start
      iexact HY
  iintro %acc ⟨HI, ⟨%X', %hX', HX⟩, ⟨%Y', %hY', HY⟩⟩
  have h4 : Scf.trips k0_t3_loop.lb k0_t3_loop.ub k0_t3_loop.st = 4 := by decide
  rw [h4] at hX' hY'
  obtain rfl := hX'.done
  obtain rfl := hY'.done
  iapply HK
  isplitl [HI]; · iexact HI
  isplitl [HX] <;> iassumption

end Pass

end Cert.Proof.Group

end
-- ==== Proof.Zero.lean ====
/-
  A tile first clears its two staged blocks of `scattered_delta`, sixteen columns of a row at a time; the columns the
  clause does not name stay at that zero for good.
-/
module

public import proofs.«01_k».proof.Proof.Group

@[expose] public section

noncomputable section

namespace Cert.Proof.Zero

open Cert.KernelIdeal Cert.KernelIdeal.Gen Cert.Proof.Own Cert.Proof.Row Cert.Proof.Group

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- Rows before `t`, and the first `b` columns of row `t`, are zero. -/
def Zeroed (t b : ℕ) (X : S64x256.Idx → F .f32) : Prop :=
  ∀ y, (y 0).val < t ∨ (y 0).val = t ∧ (y 1).val < b → X y = zero

/-- A block whose rows are so far zero. -/
def zeroed (c : Thread nD τ) (m : Memref sig c.2.kind .vmem S64x256 .f32) (t b : ℕ) : sProp 𝕄 :=
  iprop(∃ X, ⌜Zeroed t b X⌝ ∗ owns c m fullShare X)

section Step

variable {Λ : Labels} {defs : Defs nD τ sig (Elt F) Λ} (𝒱 : Variants) (c : Thread nD τ) (bd : Option 𝒱.V) (E : Set Name)
variable {α : Type} {Q : α → sProp (MT nD τ sig Ix (Elt F) Name U Lvl)}

/-- A load, its value unused, and a store of zeros in the next sixteen columns of the row. -/
theorem zero_step {t b : ℕ} {off : Fin 2 → ℕ} (hoff : off = ![t, b]) {m : Memref sig c.2.kind .vmem S64x256 .f32}
    {hin : ∀ a, off a + S1x16.size a ≤ S64x256.size a} {hl : m.view.LoadsAt (Rect.unit (s := S64x256) off S1x16.size hin).toLoadRect}
    {hx : (m.access (Rect.unit (s := S64x256) off S1x16.size hin)).Stores Finset.univ}
    {hm : (Finset.univ : Finset (Rect.unit (s := S64x256) off S1x16.size hin).shape.Idx) = Finset.univ
      ∨ ∀ a, (Rect.unit (s := S64x256) off S1x16.size hin).stride a = 1}
    {k : PUnit → Prog (TpuEff nD τ sig (Elt F) Λ c.2) α} :
    (zeroed c m t b : sProp 𝕄)
      ⊢ iprop((zeroed c m t (b + 16) -∗ wp frame (wpE defs 𝒱 c bd) E (k ⟨⟩) Q)
        -∗ wp frame (wpE defs 𝒱 c bd) E (.op (.load m (Rect.unit (s := S64x256) off S1x16.size hin).toLoadRect hl) fun _ =>
            .op (.store m (Rect.unit (s := S64x256) off S1x16.size hin) (shapeCast S1x16 (k0_pay58 (F := F)) shapeCasts_S16_S1x16)
              Finset.univ hx hm) k) Q) := by
  unfold zeroed
  iintro ⟨%X, %hX, HX⟩ HK
  iapply (own_load 𝒱 c bd E) $$ HX; iintro HX
  iapply (own_store 𝒱 c bd E) $$ HX
  iintro %X' %h HX
  iapply HK
  iexists X'
  isplitr; · ipureintro; exact (fun y hy => by
    by_cases hy' : y ∈ (Rect.unit (s := S64x256) off S1x16.size hin).set
    · obtain ⟨j, rfl⟩ := LoadRect.exists_idx_of_mem _ hy'
      exact h.1 j
    · rw [h.2 y hy']
      refine hX y ?_
      rcases hy with hy | ⟨hy0, hy1⟩
      · exact .inl hy
      · refine .inr ⟨hy0, Nat.lt_of_not_le fun hb => hy' (Rect.mem_set_unit.mpr fun a => ?_)⟩
        subst hoff
        match a with
        | 0 => exact ⟨hy0.ge, by rw [hy0]; exact Nat.lt_succ_self t⟩
        | 1 => exact ⟨hb, hy1⟩)
  iexact HX

end Step

/-- A row finished is a row done. -/
theorem zeroed_row (c : Thread nD τ) (m : Memref sig c.2.kind .vmem S64x256 .f32) (t : ℕ) :
    (zeroed c m t 256 : sProp 𝕄) ⊢ zeroed c m (t + 1) 0 := by
  unfold zeroed
  iintro ⟨%X, %hX, HX⟩
  iexists X
  isplitr; · ipureintro; exact fun y hy => hX y (by have h1 : (y 1).val < 256 := (y 1).isLt; omega)
  iexact HX

section Loop

variable (i : grid0.Coords) (arg2 : Memref sig .scVector .hbm S65536x256 .f32) (harg2 : arg2.IsWhole) (arg3 : Memref sig .scVector .hbm S16 .f32)
  (harg3 : arg3.IsWhole) (arg4 : Memref sig .scVector .hbm S65536x256 .f32) (harg4 : arg4.IsWhole) (arg5 : Memref sig .scVector .hbm S65536x8 .f32)
  (harg5 : arg5.IsWhole) (arg6 : Memref sig .scVector .vmem S64x256 .f32) (harg6 : arg6.IsWhole) (arg7 : Memref sig .scVector .vmem S64x256 .f32)
  (harg7 : arg7.IsWhole) (arg8 : Memref sig .scVector .vmem S64x256 .f32) (harg8 : arg8.IsWhole) (arg9 : Memref sig .scVector .vmem S64x256 .f32)
  (harg9 : arg9.IsWhole) (arg10 : Memref sig .scVector .vmem S64x8 .f32) (harg10 : arg10.IsWhole) (arg11 : Memref sig .scVector .vmem S64x8 .f32)
  (harg11 : arg11.IsWhole) (arg12 : Memref sig .scVector .vmem S16 .f32) (harg12 : arg12.IsWhole)
  (arg13 arg14 arg15 arg16 arg17 arg18 v30_r0 : DmaSems sig S_)
  (d : Dev nD) (𝒱 : Variants) (bd : Option 𝒱.V) (E : Set Name)

set_option maxHeartbeats 4000000 in
/-- One turn of the clearing loop: a row of each of the two blocks. -/
theorem zero_turn (t : Fin k0_t1_loop.trips) (acc : BitVec 32) :
    (iprop(zeroed (thr i d) arg8 t.val 0 ∗ zeroed (thr i d) arg9 t.val 0) : sProp 𝕄)
      ⊢ wp frame (wpE (defs₀ (F := F)) 𝒱 (thr i d) bd) E
          (k0_t1_body i arg2 harg2 arg3 harg3 arg4 harg4 arg5 harg5 arg6 harg6 arg7 harg7 arg8 harg8 arg9 harg9 arg10 harg10 arg11 harg11
            arg12 harg12 arg13 arg14 arg15 arg16 arg17 arg18 v30_r0 t acc)
          fun _ => iprop(zeroed (thr i d) arg8 (t.val + 1) 0 ∗ zeroed (thr i d) arg9 (t.val + 1) 0) := by
  unfold k0_t1_body
  simp only [k0_part1_eq_skeleton, k0_part2_eq_skeleton]
  unfold k0_part1_skel k0_part2_skel
  simp only [Prog.lift, Prog.bind_op, Prog.bind_ret, Prog.pure_eq_ret, Prog.bind_assoc]
  iintro ⟨HX, HY⟩
  iapply (zero_step 𝒱 (thr i d) bd E (b := 0) (k0_off1_eq t)) $$ HX; iintro HX
  iapply (zero_step 𝒱 (thr i d) bd E (b := 16) (k0_off2_eq t)) $$ HX; iintro HX
  iapply (zero_step 𝒱 (thr i d) bd E (b := 32) (k0_off3_eq t)) $$ HX; iintro HX
  iapply (zero_step 𝒱 (thr i d) bd E (b := 48) (k0_off4_eq t)) $$ HX; iintro HX
  iapply (zero_step 𝒱 (thr i d) bd E (b := 64) (k0_off5_eq t)) $$ HX; iintro HX
  iapply (zero_step 𝒱 (thr i d) bd E (b := 80) (k0_off6_eq t)) $$ HX; iintro HX
  iapply (zero_step 𝒱 (thr i d) bd E (b := 96) (k0_off7_eq t)) $$ HX; iintro HX
  iapply (zero_step 𝒱 (thr i d) bd E (b := 112) (k0_off8_eq t)) $$ HX; iintro HX
  iapply (zero_step 𝒱 (thr i d) bd E (b := 128) (k0_off9_eq t)) $$ HX; iintro HX
  iapply (zero_step 𝒱 (thr i d) bd E (b := 144) (k0_off10_eq t)) $$ HX; iintro HX
  iapply (zero_step 𝒱 (thr i d) bd E (b := 160) (k0_off11_eq t)) $$ HX; iintro HX
  iapply (zero_step 𝒱 (thr i d) bd E (b := 176) (k0_off12_eq t)) $$ HX; iintro HX
  iapply (zero_step 𝒱 (thr i d) bd E (b := 192) (k0_off13_eq t)) $$ HX; iintro HX
  iapply (zero_step 𝒱 (thr i d) bd E (b := 208) (k0_off14_eq t)) $$ HX; iintro HX
  iapply (zero_step 𝒱 (thr i d) bd E (b := 224) (k0_off15_eq t)) $$ HX; iintro HX
  iapply (zero_step 𝒱 (thr i d) bd E (b := 240) (k0_off16_eq t)) $$ HX; iintro HX
  iapply (zero_step 𝒱 (thr i d) bd E (b := 0) (k0_off1_eq t)) $$ HY; iintro HY
  iapply (zero_step 𝒱 (thr i d) bd E (b := 16) (k0_off2_eq t)) $$ HY; iintro HY
  iapply (zero_step 𝒱 (thr i d) bd E (b := 32) (k0_off3_eq t)) $$ HY; iintro HY
  iapply (zero_step 𝒱 (thr i d) bd E (b := 48) (k0_off4_eq t)) $$ HY; iintro HY
  iapply (zero_step 𝒱 (thr i d) bd E (b := 64) (k0_off5_eq t)) $$ HY; iintro HY
  iapply (zero_step 𝒱 (thr i d) bd E (b := 80) (k0_off6_eq t)) $$ HY; iintro HY
  iapply (zero_step 𝒱 (thr i d) bd E (b := 96) (k0_off7_eq t)) $$ HY; iintro HY
  iapply (zero_step 𝒱 (thr i d) bd E (b := 112) (k0_off8_eq t)) $$ HY; iintro HY
  iapply (zero_step 𝒱 (thr i d) bd E (b := 128) (k0_off9_eq t)) $$ HY; iintro HY
  iapply (zero_step 𝒱 (thr i d) bd E (b := 144) (k0_off10_eq t)) $$ HY; iintro HY
  iapply (zero_step 𝒱 (thr i d) bd E (b := 160) (k0_off11_eq t)) $$ HY; iintro HY
  iapply (zero_step 𝒱 (thr i d) bd E (b := 176) (k0_off12_eq t)) $$ HY; iintro HY
  iapply (zero_step 𝒱 (thr i d) bd E (b := 192) (k0_off13_eq t)) $$ HY; iintro HY
  iapply (zero_step 𝒱 (thr i d) bd E (b := 208) (k0_off14_eq t)) $$ HY; iintro HY
  iapply (zero_step 𝒱 (thr i d) bd E (b := 224) (k0_off15_eq t)) $$ HY; iintro HY
  iapply (zero_step 𝒱 (thr i d) bd E (b := 240) (k0_off16_eq t)) $$ HY; iintro HY
  rw [wp_ret]; imodintro
  isplitl [HX]
  · iapply (zeroed_row (thr i d) arg8 t.val) $$ HX
  · iapply (zeroed_row (thr i d) arg9 t.val) $$ HY

/-- The clearing loop: both blocks are zero, on the columns the clause does not name among others. -/
theorem zero_loop {α : Type} {Q : α → sProp 𝕄}
    {kk : BitVec 32 → Prog (TpuEff nD τ sig (Elt F) Λ₀ (.scVector ((i 0).castLE hcore0) ((i 1).castLE hsub0))) α} :
    (iprop((∃ X, owns (thr i d) arg8 fullShare X) ∗ (∃ X, owns (thr i d) arg9 fullShare X)) : sProp 𝕄)
      ⊢ iprop((∀ acc, (∃ X, ⌜Clear X⌝ ∗ owns (thr i d) arg8 fullShare X) ∗ (∃ X, ⌜Clear X⌝ ∗ owns (thr i d) arg9 fullShare X)
            -∗ wp frame (wpE (defs₀ (F := F)) 𝒱 (thr i d) bd) E (kk acc) Q)
        -∗ wp frame (wpE (defs₀ (F := F)) 𝒱 (thr i d) bd) E
          (Scf.Loop.for k0_t1_loop k0_t1_ok 0#32 (k0_t1_body i arg2 harg2 arg3 harg3 arg4 harg4 arg5 harg5 arg6 harg6 arg7 harg7 arg8 harg8 arg9 harg9 arg10 harg10 arg11 harg11
            arg12 harg12 arg13 arg14 arg15 arg16 arg17 arg18 v30_r0) >>= kk) Q) := by
  iintro ⟨⟨%X, HX⟩, ⟨%Y, HY⟩⟩ HK
  iapply (Scf.wp_for_bind frame (wpE (defs₀ (F := F)) 𝒱 (thr i d) bd) E _ _ _ k0_t1_ok 0#32 _
    (fun n _ => iprop(zeroed (thr i d) arg8 n 0 ∗ zeroed (thr i d) arg9 n 0)) ?hb) $$ [HX HY]
  case hb =>
    intro t acc
    exact zero_turn i arg2 harg2 arg3 harg3 arg4 harg4 arg5 harg5 arg6 harg6 arg7 harg7 arg8 harg8 arg9 harg9 arg10 harg10 arg11 harg11
            arg12 harg12 arg13 arg14 arg15 arg16 arg17 arg18 v30_r0 d 𝒱 bd E t acc
  · unfold zeroed
    isplitl [HX]
    · iexists X
      isplitr; · ipureintro; exact fun y hy => by omega
      iexact HX
    · iexists Y
      isplitr; · ipureintro; exact fun y hy => by omega
      iexact HY
  iintro %acc ⟨HX, HY⟩
  have h64 : Scf.trips k0_t1_loop.lb k0_t1_loop.ub k0_t1_loop.st = 64 := by decide
  rw [h64]
  unfold zeroed
  icases HX with ⟨%X', %hX, HX⟩
  icases HY with ⟨%Y', %hY, HY⟩
  iapply HK
  isplitl [HX]
  · iexists X'
    isplitr; · ipureintro; exact fun y _ => hX y (.inl (y 0).isLt)
    iexact HX
  · iexists Y'
    isplitr; · ipureintro; exact fun y _ => hY y (.inl (y 0).isLt)
    iexact HY

end Loop

end Cert.Proof.Zero

end
-- ==== Proof.Turn.lean ====
/-
  The steps of one half of a tile's outer turn: the wait for the block read ahead, the guarded waits for the two blocks
  written two halves before, the transfers of the two blocks just computed, and the guarded transfer that reads the block
  two halves ahead. Each is stated over one buffer of the pair at a chunk number `n`, so both halves use the same steps.
-/
module

public import proofs.«01_k».proof.Proof.Zero

@[expose] public section

noncomputable section

namespace Cert.Proof.Turn

open Cert.KernelIdeal Cert.KernelIdeal.Gen Cert.Proof.Own Cert.Proof.Row Cert.Proof.Group

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

/-! ## The chunks of a tile -/

/-- Where chunk `n` of the tile at `i` starts: a tile has 32 chunks of 64 rows. -/
def row (i : grid0.Coords) (n : ℕ) : Fin 2 → ℕ := ![4096 * (i 1).val + 2048 * (i 0).val + 64 * (n % 32), 0]

theorem row_lt (i : grid0.Coords) (n : ℕ) : 4096 * (i 1).val + 2048 * (i 0).val + 64 * (n % 32) + 64 ≤ 65536 := by
  have h0 : (i 0).val < 2 := (i 0).isLt
  have h1 : (i 1).val < 16 := (i 1).isLt
  have := Nat.mod_lt n (show 0 < 32 by decide)
  omega

theorem row_inb (i : grid0.Coords) (n : ℕ) : ∀ a, row i n a + S64x256.size a ≤ S65536x256.size a := fun a => match a with
  | 0 => row_lt i n
  | 1 => by show 0 + 256 ≤ 256; omega

theorem row_inb8 (i : grid0.Coords) (n : ℕ) : ∀ a, row i n a + S64x8.size a ≤ S65536x8.size a := fun a => match a with
  | 0 => row_lt i n
  | 1 => by show 0 + 8 ≤ 8; omega

/-- The rectangle of chunk `n` in a 256-wide array, and in an eight-wide one. -/
abbrev rect (i : grid0.Coords) (n : ℕ) : Rect S65536x256 := Rect.unit (row i n) S64x256.size (row_inb i n)
abbrev rect8 (i : grid0.Coords) (n : ℕ) : Rect S65536x8 := Rect.unit (row i n) S64x8.size (row_inb8 i n)

/-- Chunk `n` of a 256-wide array, and of an eight-wide one. -/
abbrev chunk (m : Memref sig .scVector .hbm S65536x256 .f32) (i : grid0.Coords) (n : ℕ) : Memref sig .scVector .hbm S64x256 .f32 :=
  m.slice (rect i n) (fun _ => rfl)
abbrev chunk8 (m : Memref sig .scVector .hbm S65536x8 .f32) (i : grid0.Coords) (n : ℕ) : Memref sig .scVector .hbm S64x8 .f32 :=
  m.slice (rect8 i n) (fun _ => rfl)

variable {F : FTy → Type} [FloatOps F]

/-- The values of the ground atoms in chunk `n`. -/
def vals (X : S65536x256.Idx → F .f32) (i : grid0.Coords) (n : ℕ) : S64x256.Idx → F .f32 := fun j => X ((rect i n).emb j)

variable {Ix : Type} [DecidableEq Ix] {Name : Type} [DecidableEq Name] {U : Type} [URA U] {Lvl : Type} [Preorder Lvl]
variable [CountersIn U] [Infinite Name]

local notation "𝕄" => MT nD τ sig Ix (Elt F) Name U Lvl

/-! ## What a tile holds of one buffer of the pair -/

section Buffer

variable (i : grid0.Coords) (d : Dev nD) (ι : Ix) (x out : Memref sig .scVector .hbm S65536x256 .f32)
  (del : Memref sig .scVector .hbm S65536x8 .f32) (ib ob : Memref sig .scVector .vmem S64x256 .f32)
  (db : Memref sig .scVector .vmem S64x8 .f32) (si so sd : DmaSem sig) (X : S65536x256.Idx → F .f32) (w : F .f32)

/-- What the thread owes, having waited on its own transfers only. -/
def owing (O : CellTallies nD τ sig Ix) (W : Waits sig Ix) : sProp 𝕄 :=
  iprop(∃ W', ⌜∀ p ∈ W', p ∈ W ∨ p.2 = ι⌝ ∗ owes (thr i d) O W')

/-- Before half `n` the block of chunk `n` is on its way in, if there is a chunk `n`. -/
def coming (n : ℕ) : sProp 𝕄 :=
  if n < 32 then Transfers.Flight countersEmb (thr i d) (.dma si) ι (ib.view.amount (.dma si))
    iprop(owns (thr i d) ib fullShare (vals X i n) ∗ owns (thr i d) (chunk x i n) fullShare (vals X i n))
  else iprop((∃ I, owns (thr i d) ib fullShare I) ∗ semVal ((thr i d), .dma si) 0)

/-- The two result blocks at rest: the first clear off the clause's columns, nothing known of the second. -/
def idle : sProp 𝕄 :=
  iprop((∃ Z, ⌜Clear Z⌝ ∗ owns (thr i d) ob fullShare Z) ∗ (∃ Z, owns (thr i d) db fullShare Z)
    ∗ semVal ((thr i d), .dma so) 0 ∗ semVal ((thr i d), .dma sd) 0)

/-- Chunk `n` of the two results, written. -/
def written (n : ℕ) : sProp 𝕄 :=
  iprop(owns (thr i d) (chunk out i n) fullShare (scattered w (vals X i n)) ∗ owns (thr i d) (chunk8 del i n) fullShare (deltas w (vals X i n)))

/-- Chunk `n` of the two results, not yet written. -/
def blank (n : ℕ) : sProp 𝕄 :=
  iprop((∃ f, owns (thr i d) (chunk out i n) fullShare f) ∗ (∃ f, owns (thr i d) (chunk8 del i n) fullShare f))

/-- The two result blocks of chunk `n` on their way out. -/
def leaving (n : ℕ) : sProp 𝕄 :=
  iprop(Transfers.Flight countersEmb (thr i d) (.dma so) ι (out.view.ref.dmaCredit S64x256 .f32)
      iprop(owns (thr i d) (chunk out i n) fullShare (scattered w (vals X i n)) ∗ owns (thr i d) ob fullShare (scattered w (vals X i n)))
    ∗ Transfers.Flight countersEmb (thr i d) (.dma sd) ι (del.view.ref.dmaCredit S64x8 .f32)
      iprop(owns (thr i d) (chunk8 del i n) fullShare (deltas w (vals X i n)) ∗ owns (thr i d) db fullShare (deltas w (vals X i n))))

/-- Before half `n` the blocks of half `n - 2` are on their way out, if there was one. -/
def going (n : ℕ) : sProp 𝕄 :=
  if 2 ≤ n then leaving i d ι out del ob db so sd X w (n - 2) else idle i d ob db so sd

/-- What half `n` finds written: chunk `n - 2`, if there was one. -/
def before (n : ℕ) : sProp 𝕄 := if 2 ≤ n then written i d out del X w (n - 2) else iprop(emp)

/-- What half `n` needs of the ground atoms to read ahead: chunk `n + 2`, if there is one. -/
def ahead (n : ℕ) : sProp 𝕄 := if n + 2 < 32 then owns (thr i d) (chunk x i (n + 2)) fullShare (vals X i (n + 2)) else iprop(emp)

end Buffer

/-! ## The steps -/

section Steps

variable (i : grid0.Coords) (d : Dev nD) (𝒱 : Variants) (bd : Option 𝒱.V) (ι : Ix)
  {x out : Memref sig .scVector .hbm S65536x256 .f32}
  {del : Memref sig .scVector .hbm S65536x8 .f32} {ib ob : Memref sig .scVector .vmem S64x256 .f32}
  {db : Memref sig .scVector .vmem S64x8 .f32} {si so sd : DmaSem sig} {X : S65536x256.Idx → F .f32} {w : F .f32}
  {O : CellTallies nD τ sig Ix} {W : Waits sig Ix} {α : Type} {Q : α → sProp (MT nD τ sig Ix (Elt F) Name U Lvl)}

/-- A wait for a transfer in flight. -/
theorem wait_one {sp sp' : Space} {s s' : Shape} {e e' : EltTy} {sem : DmaSem sig} {srcw : Memref sig .scVector sp s e}
    {dstw : Memref sig .scVector sp' s' e'} {hsrc : srcw.view.WordExact} {hdst : dstw.view.WordExact} {N : ℕ}
    {k : PUnit → Prog (TpuEff nD τ sig (Elt F) Λ₀ (.scVector ((i 0).castLE hcore0) ((i 1).castLE hsub0))) α} {D : sProp 𝕄}
    (hN : dstw.view.dmaCredit = N) :
    iprop(Transfers.Flight countersEmb (thr i d) (.dma sem) ι N D ∗ Transfers.MayWaits (thr i d) ι O ∗ owing i d ι O W)
      ⊢ iprop((D ∗ semVal ((thr i d), .dma sem) 0 ∗ owing i d ι O W -∗ wp frame (wpE (defs₀ (F := F)) 𝒱 (thr i d) bd) Set.univ (k ⟨⟩) Q)
        -∗ wp frame (wpE (defs₀ (F := F)) 𝒱 (thr i d) bd) Set.univ (.op (.waitDma2 sem srcw dstw hsrc hdst) k) Q) := by
  unfold owing
  iintro ⟨HF, HM, ⟨%W', %hW, HO⟩⟩ HK
  iapply (own_wait 𝒱 (thr i d) bd ι hN) $$ [HF HM HO]
  · isplitl [HF]; · iexact HF
    isplitl [HM]; · iexact HM
    iexact HO
  iintro ⟨HD, Hv, ⟨%W'', %hW', HO⟩⟩
  iapply HK
  isplitl [HD]; · iexact HD
  isplitl [Hv]; · iexact Hv
  iexists W''
  isplitr; · ipureintro; exact fun p hp => (hW' p hp).elim (hW p) .inr
  iexact HO

/-- The wait for the block of chunk `n`. -/
theorem wait_in {n : ℕ} (hn : n < 32) {srcw : Memref sig .scVector .hbm S64x256 .f32}
    {hsrc : srcw.view.WordExact} {hdst : ib.view.WordExact}
    {k : PUnit → Prog (TpuEff nD τ sig (Elt F) Λ₀ (.scVector ((i 0).castLE hcore0) ((i 1).castLE hsub0))) α} :
    (iprop(coming i d ι x ib si X n ∗ Transfers.MayWaits (thr i d) ι O ∗ owing i d ι O W) : sProp 𝕄)
      ⊢ iprop((owns (thr i d) ib fullShare (vals X i n) ∗ owns (thr i d) (chunk x i n) fullShare (vals X i n)
          ∗ semVal ((thr i d), .dma si) 0 ∗ owing i d ι O W -∗ wp frame (wpE (defs₀ (F := F)) 𝒱 (thr i d) bd) Set.univ (k ⟨⟩) Q)
        -∗ wp frame (wpE (defs₀ (F := F)) 𝒱 (thr i d) bd) Set.univ (.op (.waitDma2 si srcw ib hsrc hdst) k) Q) := by
  unfold coming
  rw [if_pos hn]
  iintro ⟨HF, HM, HO⟩ HK
  iapply (wait_one i d 𝒱 bd ι rfl) $$ [HF HM HO]
  · isplitl [HF]; · iexact HF
    isplitl [HM]; · iexact HM
    iexact HO
  iintro ⟨⟨HI, HX⟩, Hv, HO⟩
  iapply HK
  isplitl [HI]; · iexact HI
  isplitl [HX]; · iexact HX
  isplitl [Hv]; · iexact Hv
  iexact HO

/-- The two waits for the blocks of chunk `n` on their way out: the chunk is written, the blocks are at rest. -/
theorem wait_two {n : ℕ} {o o8 : Fin 2 → ℕ} {ho : ∀ a, o a + S64x256.size a ≤ S65536x256.size a} {ho8 : ∀ a, o8 a + S64x8.size a ≤ S65536x8.size a}
    {h1 h2 h3 h4}
    {k : PUnit → Prog (TpuEff nD τ sig (Elt F) Λ₀ (.scVector ((i 0).castLE hcore0) ((i 1).castLE hsub0))) α} :
    (iprop(leaving i d ι out del ob db so sd X w n ∗ Transfers.MayWaits (thr i d) ι O ∗ owing i d ι O W) : sProp 𝕄)
      ⊢ iprop((idle i d ob db so sd ∗ written i d out del X w n ∗ owing i d ι O W
            -∗ wp frame (wpE (defs₀ (F := F)) 𝒱 (thr i d) bd) Set.univ (k ⟨⟩) Q)
        -∗ wp frame (wpE (defs₀ (F := F)) 𝒱 (thr i d) bd) Set.univ
          (.op (.waitDma2 so ob (out.slice (Rect.unit (s := S65536x256) o S64x256.size ho) (fun _ => rfl)) h1 h2) fun _ =>
            .op (.waitDma2 sd db (del.slice (Rect.unit (s := S65536x8) o8 S64x8.size ho8) (fun _ => rfl)) h3 h4) k) Q) := by
  unfold leaving written idle
  iintro ⟨⟨HF, HG⟩, #HM, HO⟩ HK
  iapply (wait_one i d 𝒱 bd ι rfl) $$ [HF HO]
  · isplitl [HF]; · iexact HF
    isplitr; · iexact HM
    iexact HO
  iintro ⟨⟨Ho, Hob⟩, Hso, HO⟩
  iapply (wait_one i d 𝒱 bd ι rfl) $$ [HG HO]
  · isplitl [HG]; · iexact HG
    isplitr; · iexact HM
    iexact HO
  iintro ⟨⟨Hd, Hdb⟩, Hsd, HO⟩
  iapply HK
  isplitl [Hob Hdb Hso Hsd]
  · isplitl [Hob]
    · iexists _
      isplitr
      rotate_left
      · iexact Hob
      · ipureintro; exact clear_scattered w _
    isplitl [Hdb]; · iexists _; iexact Hdb
    isplitl [Hso] <;> iassumption
  isplitl [Ho Hd]
  · isplitl [Ho] <;> iassumption
  iexact HO

/-- The guarded waits of half `n`. -/
theorem wait_out {n : ℕ} {c : BitVec 1} (hc : c = 1#1 ↔ 2 ≤ n) {o o8 : Fin 2 → ℕ}
    {ho : c = 1#1 → ∀ a, o a + S64x256.size a ≤ S65536x256.size a} {ho8 : c = 1#1 → ∀ a, o8 a + S64x8.size a ≤ S65536x8.size a}
    {hob : ob.view.WordExact} {hdb : db.view.WordExact}
    {r : Prog (TpuEff nD τ sig (Elt F) Λ₀ (.scVector ((i 0).castLE hcore0) ((i 1).castLE hsub0))) α} :
    (iprop(going i d ι out del ob db so sd X w n ∗ Transfers.MayWaits (thr i d) ι O ∗ owing i d ι O W) : sProp 𝕄)
      ⊢ iprop((idle i d ob db so sd ∗ before i d out del X w n ∗ owing i d ι O W
            -∗ wp frame (wpE (defs₀ (F := F)) 𝒱 (thr i d) bd) Set.univ r Q)
        -∗ wp frame (wpE (defs₀ (F := F)) 𝒱 (thr i d) bd) Set.univ
          (if h : c = 1#1 then
            .op (.waitDma2 so ob (out.slice (Rect.unit (s := S65536x256) o S64x256.size (ho h)) (fun _ => rfl)) hob (View.wordExact_bits rfl)) fun _ =>
              .op (.waitDma2 sd db (del.slice (Rect.unit (s := S65536x8) o8 S64x8.size (ho8 h)) (fun _ => rfl)) hdb (View.wordExact_bits rfl)) fun _ => r
            else r) Q) := by
  unfold going before
  by_cases hn : 2 ≤ n
  · rw [if_pos hn, if_pos hn, dif_pos (hc.mpr hn)]
    iintro ⟨HG, HM, HO⟩ HK
    iapply (wait_two i d 𝒱 bd ι) $$ [HG HM HO]
    · isplitl [HG]; · iexact HG
      isplitl [HM] <;> iassumption
    iexact HK
  · rw [if_neg hn, if_neg hn, dif_neg (fun h => hn (hc.mp h))]
    iintro ⟨HG, -, HO⟩ HK
    iapply HK
    isplitl [HG]; · iexact HG
    isplitr; · iempintro
    iexact HO

/-- The two transfers of the blocks just computed. -/
theorem send {n : ℕ} {o o8 : Fin 2 → ℕ} (hrow : o = row i n) (hrow8 : o8 = row i n)
    {ho : ∀ a, o a + S64x256.size a ≤ S65536x256.size a} {ho8 : ∀ a, o8 a + S64x8.size a ≤ S65536x8.size a}
    {h1 h2 h3 h4 h5 h6}
    {k : PUnit → Prog (TpuEff nD τ sig (Elt F) Λ₀ (.scVector ((i 0).castLE hcore0) ((i 1).castLE hsub0))) α} :
    (iprop(owns (thr i d) ob fullShare (scattered w (vals X i n)) ∗ owns (thr i d) db fullShare (deltas w (vals X i n))
        ∗ semVal ((thr i d), .dma so) 0 ∗ semVal ((thr i d), .dma sd) 0 ∗ blank i d out del n) : sProp 𝕄)
      ⊢ iprop((going i d ι out del ob db so sd X w (n + 2) -∗ wp frame (wpE (defs₀ (F := F)) 𝒱 (thr i d) bd) Set.univ (k ⟨⟩) Q)
        -∗ wp frame (wpE (defs₀ (F := F)) 𝒱 (thr i d) bd) Set.univ
          (.op (.enqueueDma ob (.here (out.slice (Rect.unit (s := S65536x256) o S64x256.size ho) (fun _ => rfl))) (.dma so) h1 h2 h3) fun _ =>
            .op (.enqueueDma db (.here (del.slice (Rect.unit (s := S65536x8) o8 S64x8.size ho8) (fun _ => rfl))) (.dma sd) h4 h5 h6) k) Q) := by
  subst hrow
  subst hrow8
  unfold going leaving blank
  rw [if_pos (Nat.le_add_left 2 n), Nat.add_sub_cancel]
  iintro ⟨Hob, Hdb, Hso, Hsd, ⟨⟨%f, Ho⟩, ⟨%g, Hd⟩⟩⟩ HK
  iapply (own_dma 𝒱 (thr i d) bd (q := fullShare) ι (show 0 < S64x256.numel by decide)) $$ [Hob Ho Hso]
  · isplitl [Hob]; · iexact Hob
    isplitl [Ho] <;> iassumption
  iintro HF
  iapply (own_dma 𝒱 (thr i d) bd (q := fullShare) ι (show 0 < S64x8.numel by decide)) $$ [Hdb Hd Hsd]
  · isplitl [Hdb]; · iexact Hdb
    isplitl [Hd] <;> iassumption
  iintro HG
  iapply HK
  isplitl [HF]
  · iexact HF
  · iexact HG

/-- A transfer of chunk `n` into the block. -/
theorem fetch {n : ℕ} (hn : n < 32) {o : Fin 2 → ℕ} (hrow : o = row i n)
    {ho : ∀ a, o a + S64x256.size a ≤ S65536x256.size a} {h1 h2 h3}
    {k : PUnit → Prog (TpuEff nD τ sig (Elt F) Λ₀ (.scVector ((i 0).castLE hcore0) ((i 1).castLE hsub0))) α} :
    (iprop((∃ I, owns (thr i d) ib fullShare I) ∗ semVal ((thr i d), .dma si) 0 ∗ owns (thr i d) (chunk x i n) fullShare (vals X i n)) : sProp 𝕄)
      ⊢ iprop((coming i d ι x ib si X n -∗ wp frame (wpE (defs₀ (F := F)) 𝒱 (thr i d) bd) Set.univ (k ⟨⟩) Q)
        -∗ wp frame (wpE (defs₀ (F := F)) 𝒱 (thr i d) bd) Set.univ
          (.op (.enqueueDma (x.slice (Rect.unit (s := S65536x256) o S64x256.size ho) (fun _ => rfl)) (.here ib) (.dma si) h1 h2 h3) k) Q) := by
  subst hrow
  unfold coming
  rw [if_pos hn]
  iintro ⟨⟨%I, HI⟩, Hs, HX⟩ HK
  iapply (own_dma 𝒱 (thr i d) bd (q := fullShare) ι (show 0 < S64x256.numel by decide)) $$ [HI Hs HX]
  · isplitl [HX]; · iexact HX
    isplitl [HI] <;> iassumption
  iexact HK

/-- The guarded transfer that reads ahead. -/
theorem fetch_next {n : ℕ} {c : BitVec 1} (hc : c = 1#1 ↔ n + 2 < 32) {o : Fin 2 → ℕ} (hrow : n + 2 < 32 → o = row i (n + 2))
    {ho : c = 1#1 → ∀ a, o a + S64x256.size a ≤ S65536x256.size a} {hib : ib.view.WordExact}
    {r : Prog (TpuEff nD τ sig (Elt F) Λ₀ (.scVector ((i 0).castLE hcore0) ((i 1).castLE hsub0))) α} :
    (iprop((∃ I, owns (thr i d) ib fullShare I) ∗ semVal ((thr i d), .dma si) 0 ∗ ahead i d x X n) : sProp 𝕄)
      ⊢ iprop((coming i d ι x ib si X (n + 2) -∗ wp frame (wpE (defs₀ (F := F)) 𝒱 (thr i d) bd) Set.univ r Q)
        -∗ wp frame (wpE (defs₀ (F := F)) 𝒱 (thr i d) bd) Set.univ
          (if h : c = 1#1 then
            .op (.enqueueDma (x.slice (Rect.unit (s := S65536x256) o S64x256.size (ho h)) (fun _ => rfl)) (.here ib) (.dma si)
              (View.wordExact_bits rfl) hib ⟨Or.inl rfl, trivial⟩)
              fun _ => r
            else r) Q) := by
  unfold ahead
  by_cases hn : n + 2 < 32
  · rw [if_pos hn, dif_pos (hc.mpr hn)]
    iintro ⟨HI, Hs, HX⟩ HK
    iapply (fetch i d 𝒱 bd ι hn (hrow hn)) $$ [HI Hs HX]
    · isplitl [HI]; · iexact HI
      isplitl [Hs] <;> iassumption
    iexact HK
  · rw [if_neg hn, dif_neg (fun h => hn (hc.mp h))]
    unfold coming
    rw [if_neg hn]
    iintro ⟨HI, Hs, -⟩ HK
    iapply HK
    isplitl [HI] <;> iassumption

end Steps

end Cert.Proof.Turn

end
-- ==== Proof.Loop.lean ====
/-
  A tile's outer loop: each turn takes two chunks through the two pairs of blocks, the transfers of one pair in flight
  while the other is computed.
-/
module

public import proofs.«01_k».proof.Proof.Turn

@[expose] public section

noncomputable section

namespace Cert.Proof.Loop

open Cert.KernelIdeal Cert.KernelIdeal.Gen Cert.Proof.Own Cert.Proof.Row Cert.Proof.Group Cert.Proof.Turn

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable [CountersIn U] [Infinite Name]

local notation "𝕄" => MT nD τ sig Ix (Elt F) Name U Lvl

/-! ## The guards -/

theorem guard1 : ∀ t : Fin k0_t2_loop.trips, k0_cond1 t = 1#1 ↔ 2 ≤ 2 * t.val := by decide +kernel
theorem guard2 : ∀ t : Fin k0_t2_loop.trips, k0_cond2 t = 1#1 ↔ 2 * t.val + 2 < 32 := by decide +kernel
theorem guard3 : ∀ t : Fin k0_t2_loop.trips, k0_cond3 t = 1#1 ↔ 2 ≤ 2 * t.val + 1 := by decide +kernel
theorem guard4 : ∀ t : Fin k0_t2_loop.trips, k0_cond4 t = 1#1 ↔ 2 * t.val + 1 + 2 < 32 := by decide +kernel
theorem trips_eq : k0_t2_loop.trips = 16 := by decide

theorem row_of (i : grid0.Coords) {e n : ℕ} (hn : n < 32) (he : e = 4096 * (i 1).val + 2048 * (i 0).val + 64 * n) :
    (![e, 0] : Fin 2 → ℕ) = row i n := by
  subst he; unfold row; rw [Nat.mod_eq_of_lt hn]

/-- Where the program's chunk of a half starts. -/
theorem off18_row (i : grid0.Coords) (t : Fin k0_t2_loop.trips) (r : Fin 2) :
    k0_off18 i t (BitVec.ofNat 32 r.val) = row i (2 * t.val + r.val) :=
  have ht : t.val < 16 := lt_of_lt_of_eq t.isLt trips_eq
  (k0_off18_eq i t r).trans (row_of i (by omega) (by omega))

theorem off21_row (i : grid0.Coords) (t : Fin k0_t2_loop.trips) (r : Fin 2) :
    k0_off21 i t (BitVec.ofNat 32 r.val) = row i (2 * t.val + r.val) :=
  (k0_off21_eq i t r).trans ((k0_off18_eq i t r).symm.trans (off18_row i t r))

theorem off22_row (i : grid0.Coords) (t : Fin k0_t2_loop.trips) (h : 2 * t.val + 2 < 32) : k0_off22 i t = row i (2 * t.val + 2) :=
  (k0_off22_eq i t).trans (row_of i h (by omega))

theorem off25_row (i : grid0.Coords) (t : Fin k0_t2_loop.trips) (h : 2 * t.val + 1 + 2 < 32) : k0_off25 i t = row i (2 * t.val + 1 + 2) :=
  (k0_off25_eq i t).trans (row_of i h (by omega))

section Tile

variable (i : grid0.Coords) (arg2 : Memref sig .scVector .hbm S65536x256 .f32) (harg2 : arg2.IsWhole) (arg3 : Memref sig .scVector .hbm S16 .f32)
  (harg3 : arg3.IsWhole) (arg4 : Memref sig .scVector .hbm S65536x256 .f32) (harg4 : arg4.IsWhole) (arg5 : Memref sig .scVector .hbm S65536x8 .f32)
  (harg5 : arg5.IsWhole) (arg6 : Memref sig .scVector .vmem S64x256 .f32) (harg6 : arg6.IsWhole) (arg7 : Memref sig .scVector .vmem S64x256 .f32)
  (harg7 : arg7.IsWhole) (arg8 : Memref sig .scVector .vmem S64x256 .f32) (harg8 : arg8.IsWhole) (arg9 : Memref sig .scVector .vmem S64x256 .f32)
  (harg9 : arg9.IsWhole) (arg10 : Memref sig .scVector .vmem S64x8 .f32) (harg10 : arg10.IsWhole) (arg11 : Memref sig .scVector .vmem S64x8 .f32)
  (harg11 : arg11.IsWhole) (arg12 : Memref sig .scVector .vmem S16 .f32) (harg12 : arg12.IsWhole)
  (arg13 arg14 arg15 arg16 arg17 arg18 v30_r0 : DmaSems sig S_)

  (d : Dev nD) (𝒱 : Variants) (bd : Option 𝒱.V) (ι : Ix) (X : S65536x256.Idx → F .f32) (w : F .f32)
  (O : CellTallies nD τ sig Ix) (W : Waits sig Ix)

/-- Of the first pair of blocks, before half `n`. -/
def pair0 (n : ℕ) : sProp 𝕄 :=
  iprop(coming i d ι arg2 arg6 arg13.sem X n ∗ going i d ι arg4 arg5 arg8 arg10 arg15.sem arg17.sem X w n)

/-- Of the second pair of blocks, before half `n`. -/
def pair1 (n : ℕ) : sProp 𝕄 :=
  iprop(coming i d ι arg2 arg7 arg14.sem X n ∗ going i d ι arg4 arg5 arg9 arg11 arg16.sem arg18.sem X w n)

/-- What half `n` takes of the three arrays. -/
def takes (n : ℕ) : sProp 𝕄 := iprop(blank i d arg4 arg5 n ∗ ahead i d arg2 X n)

/-- What half `n` gives back of them. -/
def returns (n : ℕ) : sProp 𝕄 := iprop(before i d arg4 arg5 X w n ∗ owns (thr i d) (chunk arg2 i n) fullShare (vals X i n))

set_option maxHeartbeats 4000000 in
/-- The passes over the second pair of blocks are the passes over the first, with the blocks exchanged. -/
theorem second_loop (v2 : BitVec 32) (v3 : Vec F S16 .f32) (v8 : IVec S16 32) (c0 c1 : BitVec 32) (t2 : Fin k0_t2_loop.trips) :
    Scf.Loop.for k0_t4_loop k0_t4_ok 0#32 (k0_t4_body (F := F) i arg2 harg2 arg3 harg3 arg4 harg4 arg5 harg5 arg6 harg6 arg7 harg7 arg8 harg8 arg9 harg9 arg10 harg10 arg11 harg11
            arg12 harg12 arg13 arg14 arg15 arg16 arg17 arg18 v30_r0 v3 v8)
      = Scf.Loop.for k0_t3_loop k0_t3_ok 0#32 (k0_t3_body i arg2 harg2 arg3 harg3 arg4 harg4 arg5 harg5 arg7 harg7 arg6 harg6 arg9 harg9 arg8 harg8 arg11 harg11 arg10 harg10
            arg12 harg12 arg13 arg14 arg15 arg16 arg17 arg18 v30_r0 v2 (k0_pay57 v3) v8 c0 c1 t2) :=
  congrArg (Scf.Loop.for k0_t3_loop k0_t3_ok 0#32) (funext fun t => funext fun acc =>
    second_eq i arg2 harg2 arg3 harg3 arg4 harg4 arg5 harg5 arg6 harg6 arg7 harg7 arg8 harg8 arg9 harg9 arg10 harg10 arg11 harg11
            arg12 harg12 arg13 arg14 arg15 arg16 arg17 arg18 v30_r0 v2 v3 v8 c0 c1 t2 t acc)

set_option maxHeartbeats 4000000 in
/-- The first half of a turn, up to the wait for the second half's block: chunk `2 t` through the first pair of blocks. -/
theorem half (v2 : BitVec 32) (v7 : FVec F S16 .f32) (hw : ∀ j, v7 j = w) (c0 c1 : BitVec 32) (t : Fin k0_t2_loop.trips) :
    (iprop(Transfers.MayWaits (thr i d) ι O ∗ owing i d ι O W
        ∗ pair0 i arg2 arg4 arg5 arg6 arg8 arg10 arg13 arg15 arg17 d ι X w (2 * t.val)
        ∗ coming i d ι arg2 arg7 arg14.sem X (2 * t.val + 1)
        ∗ takes i arg2 arg4 arg5 d X (2 * t.val)) : sProp 𝕄)
      ⊢ wp frame (wpE (defs₀ (F := F)) 𝒱 (thr i d) bd) Set.univ
          (k0_part9 i arg2 harg2 arg3 harg3 arg4 harg4 arg5 harg5 arg6 harg6 arg7 harg7 arg8 harg8 arg9 harg9 arg10 harg10 arg11 harg11
            arg12 harg12 arg13 arg14 arg15 arg16 arg17 arg18 v30_r0 v2 v7 (iota .scVector S16 32 [0] iota_S16_d0_w32_scVector) c0 c1 t)
          fun _ => iprop(owing i d ι O W
            ∗ pair0 i arg2 arg4 arg5 arg6 arg8 arg10 arg13 arg15 arg17 d ι X w (2 * t.val + 2)
            ∗ returns i arg2 arg4 arg5 d X w (2 * t.val)
            ∗ owns (thr i d) arg7 fullShare (vals X i (2 * t.val + 1)) ∗ owns (thr i d) (chunk arg2 i (2 * t.val + 1)) fullShare (vals X i (2 * t.val + 1))
            ∗ semVal ((thr i d), .dma arg14.sem) 0) := by
  have ht : t.val < 16 := lt_of_lt_of_eq t.isLt trips_eq
  simp only [k0_part9_eq_skeleton]
  unfold k0_part9_skel
  simp only [Prog.lift, Prog.bind_op, Prog.bind_ret, Prog.pure_eq_ret, Prog.bind_assoc]
  unfold pair0 takes returns
  iintro ⟨#HM, HO, ⟨HC0, HG0⟩, HC1, ⟨HB0, HA0⟩⟩
  iapply (wait_in i d 𝒱 bd ι (n := 2 * t.val) (by omega)) $$ [HC0 HO]
  · isplitl [HC0]; · iexact HC0
    isplitr; · iexact HM
    iexact HO
  iintro ⟨HI, HX0, Hsi, HO⟩
  iapply (wait_out i d 𝒱 bd ι (guard1 t)) $$ [HG0 HO]
  · isplitl [HG0]; · iexact HG0
    isplitr; · iexact HM
    iexact HO
  unfold idle
  iintro ⟨⟨Hob, Hdb, Hso, Hsd⟩, HW0, HO⟩
  iapply (block i arg2 harg2 arg3 harg3 arg4 harg4 arg5 harg5 arg6 harg6 arg7 harg7 arg8 harg8 arg9 harg9 arg10 harg10 arg11 harg11
            arg12 harg12 arg13 arg14 arg15 arg16 arg17 arg18 v30_r0 d 𝒱 bd Set.univ v2 v7 w hw c0 c1 t (q := fullShare) (vals X i (2 * t.val))) $$ [HI Hob Hdb]
  · isplitl [HI]; · iexact HI
    isplitl [Hob] <;> iassumption
  iintro %a1 ⟨HI, Hob, Hdb⟩
  iapply (send i d 𝒱 bd ι (n := 2 * t.val) (off18_row i t 0)
    (off21_row i t 0)) $$ [Hob Hdb Hso Hsd HB0]
  · isplitl [Hob]; · iexact Hob
    isplitl [Hdb]; · iexact Hdb
    isplitl [Hso]; · iexact Hso
    isplitl [Hsd] <;> iassumption
  iintro HG0
  iapply (fetch_next i d 𝒱 bd ι (guard2 t) (off22_row i t)) $$ [HI Hsi HA0]
  · isplitl [HI]; · iexists _; iexact HI
    isplitl [Hsi] <;> iassumption
  iintro HC0
  iapply (wait_in i d 𝒱 bd ι (n := 2 * t.val + 1) (by omega)) $$ [HC1 HO]
  · isplitl [HC1]; · iexact HC1
    isplitr; · iexact HM
    iexact HO
  iintro ⟨HI, HX1, Hsi, HO⟩
  rw [wp_ret]; imodintro
  isplitl [HO]; · iexact HO
  isplitl [HC0 HG0]
  · isplitl [HC0] <;> iassumption
  isplitl [HW0 HX0]
  · isplitl [HW0] <;> iassumption
  isplitl [HI]; · iexact HI
  isplitl [HX1] <;> iassumption

set_option maxHeartbeats 4000000 in
/-- One turn: chunk `2 t` through the first pair of blocks, chunk `2 t + 1` through the second. -/
theorem turn (v2 : BitVec 32) (v3 : Vec F S16 .f32) (hw : ∀ j, k0_pay57 v3 j = w) (t : Fin k0_t2_loop.trips) (acc : BitVec 32) :
    (iprop(Transfers.MayWaits (thr i d) ι O ∗ owing i d ι O W
        ∗ pair0 i arg2 arg4 arg5 arg6 arg8 arg10 arg13 arg15 arg17 d ι X w (2 * t.val)
        ∗ pair1 i arg2 arg4 arg5 arg7 arg9 arg11 arg14 arg16 arg18 d ι X w (2 * t.val + 1)
        ∗ takes i arg2 arg4 arg5 d X (2 * t.val) ∗ takes i arg2 arg4 arg5 d X (2 * t.val + 1)) : sProp 𝕄)
      ⊢ wp frame (wpE (defs₀ (F := F)) 𝒱 (thr i d) bd) Set.univ
          (k0_t2_body i arg2 harg2 arg3 harg3 arg4 harg4 arg5 harg5 arg6 harg6 arg7 harg7 arg8 harg8 arg9 harg9 arg10 harg10 arg11 harg11
            arg12 harg12 arg13 arg14 arg15 arg16 arg17 arg18 v30_r0 v2 v3 (iota .scVector S16 32 [0] iota_S16_d0_w32_scVector) t acc)
          fun _ => iprop(owing i d ι O W
            ∗ pair0 i arg2 arg4 arg5 arg6 arg8 arg10 arg13 arg15 arg17 d ι X w (2 * t.val + 2)
            ∗ pair1 i arg2 arg4 arg5 arg7 arg9 arg11 arg14 arg16 arg18 d ι X w (2 * t.val + 1 + 2)
            ∗ returns i arg2 arg4 arg5 d X w (2 * t.val) ∗ returns i arg2 arg4 arg5 d X w (2 * t.val + 1)) := by
  have ht : t.val < 16 := lt_of_lt_of_eq t.isLt trips_eq
  unfold k0_t2_body
  rw [wp_bind]
  iintro ⟨#HM, HO, HP0, HP1, HT0, HT1⟩
  ihave HP1' := (show (pair1 i arg2 arg4 arg5 arg7 arg9 arg11 arg14 arg16 arg18 d ι X w (2 * t.val + 1) : sProp 𝕄)
    ⊢ iprop(coming i d ι arg2 arg7 arg14.sem X (2 * t.val + 1)
      ∗ going i d ι arg4 arg5 arg9 arg11 arg16.sem arg18.sem X w (2 * t.val + 1)) from .rfl) $$ HP1
  icases HP1' with ⟨HC1, HG1⟩
  iapply (wp_wand_r frame (wpE (defs₀ (F := F)) 𝒱 (thr i d) bd) (E := Set.univ))
  isplitl [HO HP0 HC1 HT0]
  · iapply (half i arg2 harg2 arg3 harg3 arg4 harg4 arg5 harg5 arg6 harg6 arg7 harg7 arg8 harg8 arg9 harg9 arg10 harg10 arg11 harg11
            arg12 harg12 arg13 arg14 arg15 arg16 arg17 arg18 v30_r0 d 𝒱 bd ι X w O W v2 (k0_pay57 v3) hw 0#32 1#32 t)
    isplitr; · iexact HM
    isplitl [HO]; · iexact HO
    isplitl [HP0]; · iexact HP0
    isplitl [HC1] <;> iassumption
  iintro %rr ⟨HO, HP0, HR0, HI, HX1, Hsi⟩
  simp only [Prog.lift, Prog.bind_op, Prog.bind_ret, Prog.pure_eq_ret, Prog.bind_assoc]
  rw [second_loop i arg2 harg2 arg3 harg3 arg4 harg4 arg5 harg5 arg6 harg6 arg7 harg7 arg8 harg8 arg9 harg9 arg10 harg10 arg11 harg11
            arg12 harg12 arg13 arg14 arg15 arg16 arg17 arg18 v30_r0 v2 v3 (iota .scVector S16 32 [0] iota_S16_d0_w32_scVector) 0#32 1#32 t]
  unfold takes
  icases HT1 with ⟨HB1, HA1⟩
  iapply (wait_out i d 𝒱 bd ι (guard3 t)) $$ [HG1 HO]
  · isplitl [HG1]; · iexact HG1
    isplitr; · iexact HM
    iexact HO
  unfold idle
  iintro ⟨⟨Hob, Hdb, Hso, Hsd⟩, HW1, HO⟩
  iapply (block i arg2 harg2 arg3 harg3 arg4 harg4 arg5 harg5 arg7 harg7 arg6 harg6 arg9 harg9 arg8 harg8 arg11 harg11 arg10 harg10
            arg12 harg12 arg13 arg14 arg15 arg16 arg17 arg18 v30_r0 d 𝒱 bd Set.univ v2 (k0_pay57 v3) w hw 0#32 1#32 t (q := fullShare) (vals X i (2 * t.val + 1))) $$ [HI Hob Hdb]
  · isplitl [HI]; · iexact HI
    isplitl [Hob] <;> iassumption
  iintro %a2 ⟨HI, Hob, Hdb⟩
  iapply (send i d 𝒱 bd ι (n := 2 * t.val + 1) (off18_row i t 1)
    (off21_row i t 1)) $$ [Hob Hdb Hso Hsd HB1]
  · isplitl [Hob]; · iexact Hob
    isplitl [Hdb]; · iexact Hdb
    isplitl [Hso]; · iexact Hso
    isplitl [Hsd] <;> iassumption
  iintro HG1
  iapply (fetch_next i d 𝒱 bd ι (guard4 t) (off25_row i t)) $$ [HI Hsi HA1]
  · isplitl [HI]; · iexists _; iexact HI
    isplitl [Hsi] <;> iassumption
  iintro HC1
  rw [wp_ret]; imodintro
  isplitl [HO]; · iexact HO
  isplitl [HP0]; · iexact HP0
  unfold pair1 returns
  isplitl [HC1 HG1]
  · isplitl [HC1] <;> iassumption
  isplitl [HR0]; · iexact HR0
  isplitl [HW1] <;> iassumption

end Tile

end Cert.Proof.Loop

end
-- ==== Proof.Tile.lean ====
/-
  A tile's whole run: the weight staged, the two result blocks cleared, the first two chunks fetched, the sixteen turns,
  and the last four waits. It leaves its 32 chunks of both results written.
-/
module

public import proofs.«01_k».proof.Proof.Loop
public import Idealize.SL.BI.BigOpNat

@[expose] public section

noncomputable section

namespace Cert.Proof.Tile

open Cert.KernelIdeal Cert.KernelIdeal.Gen Cert.Proof.Own Cert.Proof.Row Cert.Proof.Group Cert.Proof.Turn Cert.Proof.Loop

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable [CountersIn U] [Infinite Name]

local notation "𝕄" => MT nD τ sig Ix (Elt F) Name U Lvl

section Tile

variable (i : grid0.Coords) (arg2 : Memref sig .scVector .hbm S65536x256 .f32) (harg2 : arg2.IsWhole) (arg3 : Memref sig .scVector .hbm S16 .f32)
  (harg3 : arg3.IsWhole) (arg4 : Memref sig .scVector .hbm S65536x256 .f32) (harg4 : arg4.IsWhole) (arg5 : Memref sig .scVector .hbm S65536x8 .f32)
  (harg5 : arg5.IsWhole) (arg6 : Memref sig .scVector .vmem S64x256 .f32) (harg6 : arg6.IsWhole) (arg7 : Memref sig .scVector .vmem S64x256 .f32)
  (harg7 : arg7.IsWhole) (arg8 : Memref sig .scVector .vmem S64x256 .f32) (harg8 : arg8.IsWhole) (arg9 : Memref sig .scVector .vmem S64x256 .f32)
  (harg9 : arg9.IsWhole) (arg10 : Memref sig .scVector .vmem S64x8 .f32) (harg10 : arg10.IsWhole) (arg11 : Memref sig .scVector .vmem S64x8 .f32)
  (harg11 : arg11.IsWhole) (arg12 : Memref sig .scVector .vmem S16 .f32) (harg12 : arg12.IsWhole)
  (arg13 arg14 arg15 arg16 arg17 arg18 v30_r0 : DmaSems sig S_)

  (d : Dev nD) (𝒱 : Variants) (bd : Option 𝒱.V) (ι : Ix) (X : S65536x256.Idx → F .f32) (w : F .f32)
  (O : CellTallies nD τ sig Ix) (W : Waits sig Ix)

/-! ## The chunks of the three arrays, two by two -/

/-- The ground atoms of turn `g`. -/
def atoms (g : ℕ) : sProp 𝕄 :=
  iprop(owns (thr i d) (chunk arg2 i (2 * g)) fullShare (vals X i (2 * g)) ∗ owns (thr i d) (chunk arg2 i (2 * g + 1)) fullShare (vals X i (2 * g + 1)))

/-- The results of turn `g`, not yet written. -/
def blanks (g : ℕ) : sProp 𝕄 := iprop(blank i d arg4 arg5 (2 * g) ∗ blank i d arg4 arg5 (2 * g + 1))

/-- The results of turn `g`, written. -/
def results (g : ℕ) : sProp 𝕄 := iprop(written i d arg4 arg5 X w (2 * g) ∗ written i d arg4 arg5 X w (2 * g + 1))

/-- The ground atoms not yet fetched hold what turn `g` reads ahead. -/
theorem ahead_split {g : ℕ} (hg : g < 16) :
    (bigSep (Finset.Ico (g + 1) 16) (atoms i arg2 d X) : sProp 𝕄)
      ⊢ iprop(ahead i d arg2 X (2 * g) ∗ ahead i d arg2 X (2 * g + 1) ∗ bigSep (Finset.Ico (g + 1 + 1) 16) (atoms i arg2 d X)) := by
  unfold ahead
  by_cases h : g + 1 < 16
  · rw [bigSep_Ico_succ_bot h, if_pos (by omega), if_pos (by omega)]
    unfold atoms
    rw [show 2 * (g + 1) = 2 * g + 2 by omega, show 2 * g + 2 + 1 = 2 * g + 1 + 2 by omega]
    exact sep_assoc.1
  · rw [Finset.Ico_eq_empty_of_le (by omega), Finset.Ico_eq_empty_of_le (by omega), bigSep_empty, if_neg (by omega), if_neg (by omega)]
    iintro -
    isplitr; · iempintro
    isplitr <;> iempintro

/-- The results turn `g` finds written join those before them. -/
theorem before_join (g : ℕ) :
    (iprop(before i d arg4 arg5 X w (2 * g) ∗ before i d arg4 arg5 X w (2 * g + 1)
        ∗ bigSep (Finset.range (g - 1)) (results i arg4 arg5 d X w)) : sProp 𝕄)
      ⊢ bigSep (Finset.range (g + 1 - 1)) (results i arg4 arg5 d X w) := by
  unfold before
  rcases g with _ | g
  · rw [if_neg (by omega), if_neg (by omega)]
    iintro ⟨-, -, H⟩
    iexact H
  · rw [if_pos (by omega), if_pos (by omega), Nat.add_sub_cancel, Nat.add_sub_cancel, bigSep_range_succ,
      show 2 * (g + 1) - 2 = 2 * g by omega, show 2 * (g + 1) + 1 - 2 = 2 * g + 1 by omega]
    unfold results
    exact sep_assoc.2

/-! ## The outer loop -/

set_option maxHeartbeats 4000000 in
/-- The sixteen turns. -/
theorem turns (v2 : BitVec 32) (v3 : Vec F S16 .f32) (hw : ∀ j, k0_pay57 v3 j = w) {α : Type} {Q : α → sProp 𝕄}
    {kk : BitVec 32 → Prog (TpuEff nD τ sig (Elt F) Λ₀ (.scVector ((i 0).castLE hcore0) ((i 1).castLE hsub0))) α} :
    (iprop(Transfers.MayWaits (thr i d) ι O ∗ owing i d ι O W ∗ pair0 i arg2 arg4 arg5 arg6 arg8 arg10 arg13 arg15 arg17 d ι X w 0 ∗ pair1 i arg2 arg4 arg5 arg7 arg9 arg11 arg14 arg16 arg18 d ι X w 1
        ∗ bigSep (Finset.Ico 1 16) (atoms i arg2 d X) ∗ bigSep (Finset.Ico 0 16) (blanks i arg4 arg5 d)) : sProp 𝕄)
      ⊢ iprop((∀ acc, owing i d ι O W ∗ pair0 i arg2 arg4 arg5 arg6 arg8 arg10 arg13 arg15 arg17 d ι X w 32 ∗ pair1 i arg2 arg4 arg5 arg7 arg9 arg11 arg14 arg16 arg18 d ι X w 33
            ∗ bigSep (Finset.range 16) (atoms i arg2 d X) ∗ bigSep (Finset.range 15) (results i arg4 arg5 d X w)
            -∗ wp frame (wpE (defs₀ (F := F)) 𝒱 (thr i d) bd) Set.univ (kk acc) Q)
        -∗ wp frame (wpE (defs₀ (F := F)) 𝒱 (thr i d) bd) Set.univ
          (Scf.Loop.for k0_t2_loop k0_t2_ok 0#32 (k0_t2_body i arg2 harg2 arg3 harg3 arg4 harg4 arg5 harg5 arg6 harg6 arg7 harg7 arg8 harg8 arg9 harg9 arg10 harg10 arg11 harg11
            arg12 harg12 arg13 arg14 arg15 arg16 arg17 arg18 v30_r0 v2 v3
            (iota .scVector S16 32 [0] iota_S16_d0_w32_scVector)) >>= kk) Q) := by
  iintro ⟨#HM, HO, HP0, HP1, HX, HB⟩ HK
  iapply (Scf.wp_for_bind frame (wpE (defs₀ (F := F)) 𝒱 (thr i d) bd) Set.univ _ _ _ k0_t2_ok 0#32 _
    (fun g _ => iprop(Transfers.MayWaits (thr i d) ι O ∗ owing i d ι O W ∗ pair0 i arg2 arg4 arg5 arg6 arg8 arg10 arg13 arg15 arg17 d ι X w (2 * g) ∗ pair1 i arg2 arg4 arg5 arg7 arg9 arg11 arg14 arg16 arg18 d ι X w (2 * g + 1)
      ∗ bigSep (Finset.Ico (g + 1) 16) (atoms i arg2 d X) ∗ bigSep (Finset.range g) (atoms i arg2 d X)
      ∗ bigSep (Finset.Ico g 16) (blanks i arg4 arg5 d) ∗ bigSep (Finset.range (g - 1)) (results i arg4 arg5 d X w))) ?hb) $$ [HO HP0 HP1 HX HB]
  case hb =>
    intro t acc
    have ht : t.val < 16 := lt_of_lt_of_eq t.isLt trips_eq
    iintro ⟨#HM, HO, HP0, HP1, HX, HX', HB, HR⟩
    ihave HXs := (ahead_split i arg2 d X ht) $$ HX
    icases HXs with ⟨HA0, HA1, HX⟩
    ihave HBs := (Entails.of_eq (bigSep_Ico_succ_bot ht (blanks (F := F) (Ix := Ix) (Name := Name) (U := U) (Lvl := Lvl) i arg4 arg5 d))) $$ HB
    icases HBs with ⟨HBt, HB⟩
    ihave HBt' := (show (blanks i arg4 arg5 d t.val : sProp 𝕄) ⊢ iprop(blank i d arg4 arg5 (2 * t.val) ∗ blank i d arg4 arg5 (2 * t.val + 1)) from .rfl) $$ HBt
    icases HBt' with ⟨HB0, HB1⟩
    iapply (wp_wand_r frame (wpE (defs₀ (F := F)) 𝒱 (thr i d) bd) (E := Set.univ))
    isplitl [HO HP0 HP1 HA0 HA1 HB0 HB1]
    · iapply (turn i arg2 harg2 arg3 harg3 arg4 harg4 arg5 harg5 arg6 harg6 arg7 harg7 arg8 harg8 arg9 harg9 arg10 harg10 arg11 harg11
            arg12 harg12 arg13 arg14 arg15 arg16 arg17 arg18 v30_r0 d 𝒱 bd ι X w O W v2 v3 hw t acc)
      isplitr; · iexact HM
      isplitl [HO]; · iexact HO
      isplitl [HP0]; · iexact HP0
      isplitl [HP1]; · iexact HP1
      unfold takes
      isplitl [HA0 HB0]
      · isplitl [HB0] <;> iassumption
      · isplitl [HB1] <;> iassumption
    unfold returns
    iintro %rr ⟨HO, HP0, HP1, ⟨HW0, HX0⟩, ⟨HW1, HX1⟩⟩
    isplitr; · iexact HM
    isplitl [HO]; · iexact HO
    isplitl [HP0]; · iexact HP0
    isplitl [HP1]; · rw [show 2 * (t.val + 1) + 1 = 2 * t.val + 1 + 2 by omega]; iexact HP1
    isplitl [HX]; · iexact HX
    isplitl [HX' HX0 HX1]
    · rw [bigSep_range_succ]
      unfold atoms
      isplitl [HX0 HX1]
      · isplitl [HX0] <;> iassumption
      iexact HX'
    isplitl [HB]; · iexact HB
    iapply (before_join i arg4 arg5 d X w t.val)
    isplitl [HW0]; · iexact HW0
    isplitl [HW1] <;> iassumption
  · isplitr; · iexact HM
    isplitl [HO]; · iexact HO
    isplitl [HP0]; · iexact HP0
    isplitl [HP1]; · iexact HP1
    isplitl [HX]; · iexact HX
    isplitr; · rw [Finset.range_zero, bigSep_empty]; iempintro
    isplitl [HB]; · iexact HB
    rw [Finset.range_zero, bigSep_empty]; iempintro
  rw [show Scf.trips k0_t2_loop.lb k0_t2_loop.ub k0_t2_loop.st = 16 by decide]
  iintro %acc ⟨-, HO, HP0, HP1, -, HX, -, HR⟩
  iapply HK
  isplitl [HO]; · iexact HO
  isplitl [HP0]; · iexact HP0
  isplitl [HP1]; · iexact HP1
  isplitl [HX] <;> iassumption

/-! ## The whole run -/

theorem start0 : ∀ i : grid0.Coords, k0_off17 i 0#32 = row i 0 := by decide +kernel
theorem start1 : ∀ i : grid0.Coords, k0_off17 i 64#32 = row i 1 := by decide +kernel

/-- The scratch a tile is given and gives back: nothing known of the blocks, the semaphores at zero. -/
def scratch : sProp 𝕄 :=
  iprop((∃ Z, owns (thr i d) arg6 fullShare Z) ∗ (∃ Z, owns (thr i d) arg7 fullShare Z)
    ∗ (∃ Z, owns (thr i d) arg8 fullShare Z) ∗ (∃ Z, owns (thr i d) arg9 fullShare Z)
    ∗ (∃ Z, owns (thr i d) arg10 fullShare Z) ∗ (∃ Z, owns (thr i d) arg11 fullShare Z) ∗ (∃ Z, owns (thr i d) arg12 fullShare Z)
    ∗ semVal ((thr i d), .dma arg13.sem) 0 ∗ semVal ((thr i d), .dma arg14.sem) 0 ∗ semVal ((thr i d), .dma arg15.sem) 0
    ∗ semVal ((thr i d), .dma arg16.sem) 0 ∗ semVal ((thr i d), .dma arg17.sem) 0 ∗ semVal ((thr i d), .dma arg18.sem) 0
    ∗ semVal ((thr i d), .dma v30_r0.sem) 0)

set_option maxHeartbeats 4000000 in
/-- The tile's run, from its chunks of the ground atoms and a share of the staged weight to its chunks of the results. -/
theorem body {q : PosShare TreeShare} (w₀ : F .f32) (hw : clip w₀ = w) :
    (iprop(Transfers.MayWaits (thr i d) ι O ∗ owing i d ι O W ∗ owns (thr i d) arg3 q (fun _ => w₀)
        ∗ bigSep (Finset.range 16) (atoms i arg2 d X) ∗ bigSep (Finset.range 16) (blanks i arg4 arg5 d)
        ∗ scratch i arg6 arg7 arg8 arg9 arg10 arg11 arg12 arg13 arg14 arg15 arg16 arg17 arg18 v30_r0 d) : sProp 𝕄)
      ⊢ wp frame (wpE (defs₀ (F := F)) 𝒱 (thr i d) bd) Set.univ
          (cc0__sc_body i arg2 harg2 arg3 harg3 arg4 harg4 arg5 harg5 arg6 harg6 arg7 harg7 arg8 harg8 arg9 harg9 arg10 harg10 arg11 harg11
            arg12 harg12 arg13 arg14 arg15 arg16 arg17 arg18 v30_r0)
          fun _ => iprop(owing i d ι O W ∗ owns (thr i d) arg3 q (fun _ => w₀)
            ∗ bigSep (Finset.range 16) (atoms i arg2 d X) ∗ bigSep (Finset.range 16) (results i arg4 arg5 d X w)
            ∗ scratch i arg6 arg7 arg8 arg9 arg10 arg11 arg12 arg13 arg14 arg15 arg16 arg17 arg18 v30_r0 d) := by
  simp only [cc0__sc_body_eq_skeleton]
  unfold cc0__sc_body_skel
  simp only [k0_part10_eq_skeleton]
  unfold k0_part10_skel scratch
  simp only [Prog.lift, Prog.bind_op, Prog.bind_ret, Prog.pure_eq_ret, Prog.bind_assoc]
  have hsplit : (bigSep (Finset.range 16) (atoms i arg2 d X) : sProp 𝕄) ⊢ iprop((owns (thr i d) (chunk arg2 i 0) fullShare (vals X i 0)
      ∗ owns (thr i d) (chunk arg2 i 1) fullShare (vals X i 1)) ∗ bigSep (Finset.Ico 1 16) (atoms i arg2 d X)) := by
    rw [Finset.range_eq_Ico, bigSep_Ico_succ_bot (show 0 < 16 by decide)]
    exact .rfl
  have hjoin : (iprop((written i d arg4 arg5 X w 30 ∗ written i d arg4 arg5 X w 31) ∗ bigSep (Finset.range 15) (results i arg4 arg5 d X w)) : sProp 𝕄)
      ⊢ bigSep (Finset.range 16) (results i arg4 arg5 d X w) := Entails.of_eq (bigSep_range_succ 15 (results (F := F) i arg4 arg5 d X w)).symm
  have hblank : (bigSep (Finset.range 16) (blanks i arg4 arg5 d) : sProp 𝕄) ⊢ bigSep (Finset.Ico 0 16) (blanks i arg4 arg5 d) :=
    Entails.of_eq (by rw [Finset.range_eq_Ico])
  iintro ⟨#HM, HO, Hw, HX, HB, ⟨HI0, HI1, HO0, HO1, ⟨%D0, HD0⟩, ⟨%D1, HD1⟩, ⟨%Z, HZ⟩, Hs0, Hs1, Ho0, Ho1, Hd0, Hd1, Hr⟩⟩
  ihave HXs := hsplit $$ HX
  icases HXs with ⟨⟨HX0, HX1⟩, HX⟩
  ihave HBs := hblank $$ HB
  iapply (own_dma 𝒱 (thr i d) bd ι (show 0 < S16.numel by decide)) $$ [Hw HZ Hr]
  · isplitl [Hw]; · iexact Hw
    isplitl [HZ] <;> iassumption
  iintro HF
  iapply (wait_one i d 𝒱 bd ι rfl) $$ [HF HO]
  · isplitl [HF]; · iexact HF
    isplitr; · iexact HM
    iexact HO
  iintro ⟨⟨HZ, Hw⟩, Hr, HO⟩
  iapply (own_load 𝒱 (thr i d) bd Set.univ) $$ HZ; iintro HZ
  iapply (Zero.zero_loop i arg2 harg2 arg3 harg3 arg4 harg4 arg5 harg5 arg6 harg6 arg7 harg7 arg8 harg8 arg9 harg9 arg10 harg10 arg11 harg11
            arg12 harg12 arg13 arg14 arg15 arg16 arg17 arg18 v30_r0 d 𝒱 bd Set.univ) $$ [HO0 HO1]
  · isplitl [HO0] <;> iassumption
  iintro %a1 ⟨HO0, HO1⟩
  iapply (fetch i d 𝒱 bd ι (X := X) (n := 0) (by decide) (start0 i)) $$ [HI0 Hs0 HX0]
  · isplitl [HI0]; · iexact HI0
    isplitl [Hs0] <;> iassumption
  iintro HC0
  iapply (fetch i d 𝒱 bd ι (X := X) (n := 1) (by decide) (start1 i)) $$ [HI1 Hs1 HX1]
  · isplitl [HI1]; · iexact HI1
    isplitl [Hs1] <;> iassumption
  iintro HC1
  iapply (turns i arg2 harg2 arg3 harg3 arg4 harg4 arg5 harg5 arg6 harg6 arg7 harg7 arg8 harg8 arg9 harg9 arg10 harg10 arg11 harg11
            arg12 harg12 arg13 arg14 arg15 arg16 arg17 arg18 v30_r0 d 𝒱 bd ι X w O W _ _ (fun _ => hw)) $$ [HO HC0 HC1 HO0 HO1 HD0 HD1 Ho0 Ho1 Hd0 Hd1 HX HBs]
  · isplitr; · iexact HM
    isplitl [HO]; · iexact HO
    unfold pair0 pair1 going
    rw [if_neg (by decide), if_neg (by decide)]
    unfold idle
    isplitl [HC0 HO0 HD0 Ho0 Hd0]
    · isplitl [HC0]; · iexact HC0
      isplitl [HO0]; · iexact HO0
      isplitl [HD0]; · iexists D0; iexact HD0
      isplitl [Ho0] <;> iassumption
    isplitl [HC1 HO1 HD1 Ho1 Hd1]
    · isplitl [HC1]; · iexact HC1
      isplitl [HO1]; · iexact HO1
      isplitl [HD1]; · iexists D1; iexact HD1
      isplitl [Ho1] <;> iassumption
    isplitl [HX]; · iexact HX
    iexact HBs
  unfold pair0 pair1 coming going
  rw [if_neg (show ¬ 32 < 32 by decide), if_neg (show ¬ 33 < 32 by decide), if_pos (show 2 ≤ 32 by decide), if_pos (show 2 ≤ 33 by decide)]
  iintro %a2 ⟨HO, ⟨⟨HI0, Hs0⟩, HG0⟩, ⟨⟨HI1, Hs1⟩, HG1⟩, HX, HR⟩
  iapply (wait_two i d 𝒱 bd ι) $$ [HG0 HO]
  · isplitl [HG0]; · iexact HG0
    isplitr; · iexact HM
    iexact HO
  unfold idle
  iintro ⟨⟨⟨%Z0, -, HO0⟩, HD0, Ho0, Hd0⟩, HW0, HO⟩
  iapply (wait_two i d 𝒱 bd ι) $$ [HG1 HO]
  · isplitl [HG1]; · iexact HG1
    isplitr; · iexact HM
    iexact HO
  unfold idle
  iintro ⟨⟨⟨%Z1, -, HO1⟩, HD1, Ho1, Hd1⟩, HW1, HO⟩
  rw [wp_ret]; imodintro
  isplitl [HO]; · iexact HO
  isplitl [Hw]; · iexact Hw
  isplitl [HX]; · iexact HX
  isplitl [HR HW0 HW1]
  · iapply hjoin
    isplitl [HW0 HW1]
    · isplitl [HW0] <;> iassumption
    iexact HR
  isplitl [HI0]; · iexact HI0
  isplitl [HI1]; · iexact HI1
  isplitl [HO0]; · iexists Z0; iexact HO0
  isplitl [HO1]; · iexists Z1; iexact HO1
  isplitl [HD0]; · iexact HD0
  isplitl [HD1]; · iexact HD1
  isplitl [HZ]; · iexists _; iexact HZ
  isplitl [Hs0]; · iexact Hs0
  isplitl [Hs1]; · iexact Hs1
  isplitl [Ho0]; · iexact Ho0
  isplitl [Ho1]; · iexact Ho1
  isplitl [Hd0]; · iexact Hd0
  isplitl [Hd1]; · iexact Hd1
  iexact Hr

end Tile

end Cert.Proof.Tile

end
-- ==== Proof.Chunks.lean ====
/-
  The three arrays of the call as the tiles' chunks. An array of 65536 rows is, for each of the two SparseCores and each
  of its sixteen tiles, thirty-two chunks of 64 rows, taken two by two; the chunks of a row-wise array are the row-wise
  arrays of the chunks.
-/
module

public import proofs.«01_k».proof.Proof.Tile
public import Idealize.SL.BI.BigOpNat

@[expose] public section

noncomputable section

namespace Cert.Proof.Chunks

open Cert.KernelIdeal Cert.KernelIdeal.Gen Cert.Proof.Row Cert.Proof.Group Cert.Proof.Turn Cert.Proof.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

/-- The coordinates of tile `s` of SparseCore `c`. -/
def coords (c : Fin 2) (s : Fin 16) : grid0.Coords :=
  fun | 0 => c | 1 => s | ⟨_ + 2, h⟩ => absurd h (Nat.not_lt.2 (Nat.le_add_left _ _))

/-- The chunks: by SparseCore and tile, then by pair and place in the pair. -/
abbrev Piece : Type := (Fin 2 × Fin 16) × (Fin 16 × Fin 2)

/-- The number of a chunk in its tile. -/
abbrev Piece.num (t : Piece) : ℕ := 2 * t.2.1.val + t.2.2.val

theorem num_mod (t : Piece) : t.num % 32 = 2 * t.2.1.val + t.2.2.val := by
  have h1 := t.2.1.isLt
  have h2 := t.2.2.isLt
  show (2 * t.2.1.val + t.2.2.val) % 32 = _
  omega

/-- Where a chunk starts. -/
theorem row_piece (t : Piece) :
    row (coords t.1.1 t.1.2) t.num 0 = 4096 * t.1.2.val + 2048 * t.1.1.val + 64 * (2 * t.2.1.val + t.2.2.val) := by
  show 4096 * t.1.2.val + 2048 * t.1.1.val + 64 * (t.num % 32) = _
  rw [num_mod]

theorem separated (t t' : Piece) (h : t ≠ t') :
    row (coords t.1.1 t.1.2) t.num 0 + 64 ≤ row (coords t'.1.1 t'.1.2) t'.num 0
      ∨ row (coords t'.1.1 t'.1.2) t'.num 0 + 64 ≤ row (coords t.1.1 t.1.2) t.num 0 := by
  rw [row_piece, row_piece]
  by_contra hn
  apply h
  obtain ⟨⟨c, s⟩, g, b⟩ := t
  obtain ⟨⟨c', s'⟩, g', b'⟩ := t'
  have h1 := c.isLt; have h2 := c'.isLt; have h3 := s.isLt; have h4 := s'.isLt
  have h5 := g.isLt; have h6 := g'.isLt; have h7 := b.isLt; have h8 := b'.isLt
  simp only [Prod.mk.injEq, Fin.ext_iff]
  dsimp only at hn
  omega

/-- The chunk a row lies in. -/
def pieceOf (r : ℕ) : Piece :=
  ((⟨r / 2048 % 2, by omega⟩, ⟨r / 4096 % 16, by omega⟩), (⟨r / 128 % 16, by omega⟩, ⟨r / 64 % 2, by omega⟩))

theorem row_pieceOf {r : ℕ} (hr : r < 65536) :
    row (coords (pieceOf r).1.1 (pieceOf r).1.2) (pieceOf r).num 0 ≤ r
      ∧ r < row (coords (pieceOf r).1.1 (pieceOf r).1.2) (pieceOf r).num 0 + 64 := by
  rw [row_piece]
  show 4096 * (r / 4096 % 16) + 2048 * (r / 2048 % 2) + 64 * (2 * (r / 128 % 16) + r / 64 % 2) ≤ r
    ∧ r < 4096 * (r / 4096 % 16) + 2048 * (r / 2048 % 2) + 64 * (2 * (r / 128 % 16) + r / 64 % 2) + 64
  omega

abbrev rectOf (t : Piece) : Rect S65536x256 := rect (coords t.1.1 t.1.2) t.num
abbrev rectOf8 (t : Piece) : Rect S65536x8 := rect8 (coords t.1.1 t.1.2) t.num

theorem rects_disjoint (t t' : Piece) (h : t ≠ t') : Disjoint (rectOf t).set (rectOf t').set :=
  Rect.unit_disjoint 0 (separated t t' h)

theorem rects8_disjoint (t t' : Piece) (h : t ≠ t') : Disjoint (rectOf8 t).set (rectOf8 t').set :=
  Rect.unit_disjoint 0 (separated t t' h)

theorem rects_cover : (Finset.univ : Finset Piece).biUnion (fun t => (rectOf t).set) = Finset.univ := by
  rw [Finset.eq_univ_iff_forall]
  intro y
  rw [Finset.mem_biUnion]
  have h0 : (y 0).val < 65536 := (y 0).isLt
  have h1 : (y 1).val < 256 := (y 1).isLt
  have hr := row_pieceOf h0
  refine ⟨pieceOf (y 0).val, Finset.mem_univ _, ?_⟩
  generalize pieceOf (y 0).val = t at hr ⊢
  exact Rect.mem_set_unit.mpr fun a => match a with
    | 0 => hr
    | 1 => ⟨Nat.zero_le _, by show (y 1).val < 0 + 256; omega⟩

theorem rects8_cover : (Finset.univ : Finset Piece).biUnion (fun t => (rectOf8 t).set) = Finset.univ := by
  rw [Finset.eq_univ_iff_forall]
  intro y
  rw [Finset.mem_biUnion]
  have h0 : (y 0).val < 65536 := (y 0).isLt
  have h1 : (y 1).val < 8 := (y 1).isLt
  have hr := row_pieceOf h0
  refine ⟨pieceOf (y 0).val, Finset.mem_univ _, ?_⟩
  generalize pieceOf (y 0).val = t at hr ⊢
  exact Rect.mem_set_unit.mpr fun a => match a with
    | 0 => hr
    | 1 => ⟨Nat.zero_le _, by show (y 1).val < 0 + 8; omega⟩

variable {F : FTy → Type} [FloatOps F]

/-! ## Chunks of row-wise arrays -/

theorem emb_row (i : grid0.Coords) (n : ℕ) (j : S64x256.Idx) : ((rect i n).emb j 0).val = row i n 0 + (j 0).val := by
  show row i n 0 + 1 * (j 0).val = _
  omega

theorem emb_col (i : grid0.Coords) (n : ℕ) (j : S64x256.Idx) : (rect i n).emb j 1 = j 1 := by
  refine Fin.ext ?_
  show 0 + 1 * (j 1).val = _
  omega

theorem emb8_row (i : grid0.Coords) (n : ℕ) (j : S64x8.Idx) : ((rect8 i n).emb j 0).val = row i n 0 + (j 0).val := by
  show row i n 0 + 1 * (j 0).val = _
  omega

theorem emb8_col (i : grid0.Coords) (n : ℕ) (j : S64x8.Idx) : (rect8 i n).emb j 1 = j 1 := by
  refine Fin.ext ?_
  show 0 + 1 * (j 1).val = _
  omega

/-- A row of a chunk is a row of the array. -/
theorem rowOf_vals (X : S65536x256.Idx → F .f32) (i : grid0.Coords) (n : ℕ) (r : Fin 64) (R : Fin 65536) (h : R.val = row i n 0 + r.val) :
    rowOf (vals X i n) r = rowOf X R := by
  funext c
  refine congrArg X (funext fun a => ?_)
  match a with
  | 0 => exact Fin.ext ((emb_row i n (ValueIdx.ix2 r c)).trans h.symm)
  | 1 => exact emb_col i n (ValueIdx.ix2 r c)

theorem scattered_vals (w : F .f32) (X : S65536x256.Idx → F .f32) (i : grid0.Coords) (n : ℕ) :
    scattered w (vals X i n) = fun j => scattered w X ((rect i n).emb j) := by
  funext j
  unfold scattered
  rw [rowOf_vals X i n (j 0) _ (emb_row i n j), emb_col]

theorem deltas_vals (w : F .f32) (X : S65536x256.Idx → F .f32) (i : grid0.Coords) (n : ℕ) :
    deltas w (vals X i n) = fun j => deltas w X ((rect8 i n).emb j) := by
  funext j
  unfold deltas
  rw [rowOf_vals X i n (j 0) _ (emb8_row i n j), emb8_col]

/-! ## The arrays split -/

variable {Ix : Type} [DecidableEq Ix] {Name : Type} [DecidableEq Name] {U : Type} [URA U] {Lvl : Type} [Preorder Lvl]

local notation "𝕄" => MT nD τ sig Ix (Elt F) Name U Lvl

/-- Over the first `n` numbers and over `Fin n`. -/
theorem bigSep_range_fin (n : ℕ) (Φ : ℕ → sProp 𝕄) : bigSep (Finset.range n) Φ = bigSep Finset.univ fun k : Fin n => Φ k.val := by
  have e : Finset.range n = (Finset.univ : Finset (Fin n)).map Fin.valEmbedding := by
    ext k
    exact ⟨fun h => Finset.mem_map.mpr ⟨⟨k, Finset.mem_range.mp h⟩, Finset.mem_univ _, rfl⟩,
      fun h => by obtain ⟨a, -, rfl⟩ := Finset.mem_map.mp h; exact Finset.mem_range.mpr a.isLt⟩
  rw [e, bigSep_map]
  rfl

/-- Chunk by chunk is tile by tile, pair by pair. -/
theorem by_tile (Ψ : Fin 2 → Fin 16 → ℕ → sProp 𝕄) :
    (bigSep Finset.univ fun t : Piece => Ψ t.1.1 t.1.2 t.num)
      = bigSep Finset.univ fun c => bigSep Finset.univ fun s => bigSep (Finset.range 16) fun g => iprop(Ψ c s (2 * g) ∗ Ψ c s (2 * g + 1)) := by
  rw [bigSep_univ_prod, bigSep_univ_prod]
  refine bigSep_congr fun c _ => bigSep_congr fun s _ => ?_
  rw [bigSep_univ_prod, bigSep_range_fin]
  exact bigSep_congr fun g _ => bigSep_fin_two _

variable (d : Dev nD)

abbrev xV : Memref sig .scVector .hbm S65536x256 .f32 := Memref.whole main_arg0_scv
abbrev oV : Memref sig .scVector .hbm S65536x256 .f32 := Memref.whole main_v1_0_scv
abbrev dV : Memref sig .scVector .hbm S65536x8 .f32 := Memref.whole main_v1_1_scv

abbrev xLoc : Loc nD τ sig := (SparseCore.T d).loc main_arg0
abbrev oLoc : Loc nD τ sig := (SparseCore.T d).loc main_v1_0
abbrev dLoc : Loc nD τ sig := (SparseCore.T d).loc main_v1_1

/-- The thread that runs a chunk's tile. -/
abbrev thrOf (t : Piece) : Thread nD τ := thr (coords t.1.1 t.1.2) d

theorem x_pieces (X : S65536x256.Idx → F .f32) :
    (xLoc d ↦{fullShare} X : sProp 𝕄)
      = bigSep Finset.univ fun t : Piece => owns (thrOf d t) (chunk xV (coords t.1.1 t.1.2) t.num) fullShare (vals X (coords t.1.1 t.1.2) t.num) := by
  have h := pointsTo_rects (Val := Elt F) (Ix := Ix) (Name := Name) (U := U) (Lvl := Lvl) (thr (coords 0 0) d) xV fullShare rectOf (fun _ _ => rfl) rects_disjoint rects_cover X
  rw [show (xV).view.set = Finset.univ from View.set_whole _] at h
  exact h

theorem o_pieces (X : S65536x256.Idx → F .f32) :
    (oLoc d ↦{fullShare} X : sProp 𝕄)
      = bigSep Finset.univ fun t : Piece => owns (thrOf d t) (chunk oV (coords t.1.1 t.1.2) t.num) fullShare (fun j => X ((rectOf t).emb j)) := by
  have h := pointsTo_rects (Val := Elt F) (Ix := Ix) (Name := Name) (U := U) (Lvl := Lvl) (thr (coords 0 0) d) oV fullShare rectOf (fun _ _ => rfl) rects_disjoint rects_cover X
  rw [show (oV).view.set = Finset.univ from View.set_whole _] at h
  exact h

theorem d_pieces (X : S65536x8.Idx → F .f32) :
    (dLoc d ↦{fullShare} X : sProp 𝕄)
      = bigSep Finset.univ fun t : Piece => owns (thrOf d t) (chunk8 dV (coords t.1.1 t.1.2) t.num) fullShare (fun j => X ((rectOf8 t).emb j)) := by
  have h := pointsTo_rects (Val := Elt F) (Ix := Ix) (Name := Name) (U := U) (Lvl := Lvl) (thr (coords 0 0) d) dV fullShare rectOf8 (fun _ _ => rfl) rects8_disjoint rects8_cover X
  rw [show (dV).view.set = Finset.univ from View.set_whole _] at h
  exact h

/-- The ground atoms, whole, are the tiles' chunks of them. -/
theorem atoms_tiles (X : S65536x256.Idx → F .f32) :
    (xLoc d ↦{fullShare} X : sProp 𝕄)
      = bigSep Finset.univ fun c => bigSep Finset.univ fun s => bigSep (Finset.range 16) (atoms (coords c s) xV d X) := by
  rw [x_pieces]
  exact by_tile fun c s n => owns (thr (coords c s) d) (chunk xV (coords c s) n) fullShare (vals X (coords c s) n)

/-- The results, whole and written, are the tiles' chunks of them. -/
theorem results_tiles (X : S65536x256.Idx → F .f32) (w : F .f32) :
    (iprop((oLoc d ↦{fullShare} scattered w X) ∗ dLoc d ↦{fullShare} deltas w X) : sProp 𝕄)
      = bigSep Finset.univ fun c => bigSep Finset.univ fun s => bigSep (Finset.range 16) (results (coords c s) oV dV d X w) := by
  rw [o_pieces, d_pieces, ← bigSep_sep']
  refine Eq.trans (bigSep_congr fun t _ => ?_) (by_tile fun c s n => written (coords c s) d oV dV X w n)
  unfold written
  rw [scattered_vals, deltas_vals]
  rfl

/-- A chunk of the results, whatever it holds. -/
theorem blank_of (i : grid0.Coords) (n : ℕ) (f : S64x256.Idx → F .f32) (g : S64x8.Idx → F .f32) :
    (iprop(owns (thr i d) (chunk oV i n) fullShare f ∗ owns (thr i d) (chunk8 dV i n) fullShare g) : sProp 𝕄) ⊢ blank i d oV dV n := by
  unfold blank
  iintro ⟨Ho, Hd⟩
  isplitl [Ho]
  · iexists _; iexact Ho
  · iexists _; iexact Hd

/-- The results, whole, give the tiles the chunks they write. -/
theorem blanks_tiles (f : S65536x256.Idx → F .f32) (g : S65536x8.Idx → F .f32) :
    (iprop((oLoc d ↦{fullShare} f) ∗ dLoc d ↦{fullShare} g) : sProp 𝕄)
      ⊢ bigSep Finset.univ fun c => bigSep Finset.univ fun s => bigSep (Finset.range 16) (blanks (F := F) (coords c s) oV dV d) := by
  rw [o_pieces, d_pieces, ← bigSep_sep']
  exact BI.Entails.trans (bigSep_mono fun t _ => blank_of d _ _ _ _) (Entails.of_eq (by_tile fun c s n => blank (F := F) (coords c s) d oV dV n))

end Cert.Proof.Chunks

end
-- ==== Proof.Launch.lean ====
/-
  The launch of the call. Each of the 32 tiles is handed a read share of the staged weight, its chunks of the ground
  atoms and its chunks of the two results, and hands them back with the results written; put together the chunks are the
  two results whole. @main stages the weight and runs the call.
-/
module

public import proofs.«01_k».proof.Defs
public import proofs.«01_k».proof.Proof.Chunks
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Launch

open Cert.KernelIdeal Cert.KernelIdeal.Gen Cert.Proof.Row Cert.Proof.Group Cert.Proof.Turn Cert.Proof.Tile Cert.Proof.Chunks

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## A tile's scratch among what it owns -/

/-- The seven blocks of a tile, and its seven semaphores. -/
def block7 : Fin 7 → Ref sig .scVector :=
  ![cc0_scratch0, cc0_scratch1, cc0_scratch2, cc0_scratch3, cc0_scratch4, cc0_scratch5, cc0_scratch6]
def sem7 : Fin 7 → SemLoc sig :=
  ![.dma cc0_scratch7.sem, .dma cc0_scratch8.sem, .dma cc0_scratch9.sem, .dma cc0_scratch10.sem, .dma cc0_scratch11.sem,
    .dma cc0_scratch12.sem, .dma cc0_scoped0.sem]

theorem block7_inj : Function.Injective block7 := by decide
theorem sem7_inj : Function.Injective sem7 := by decide

theorem bigSep_seven (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

section Scratch

variable (d : Dev nD) (L : grid0.Coords)

/-- A tile's own semaphores other than the seven, and its own blocks other than the seven. -/
def otherSems : sProp 𝕄 :=
  bigSep (ownCells (thr L d) \ Finset.univ.image fun k => ((thr L d, sem7 k) : GSem nD τ sig)) fun g => semVal g 0
def otherBufs : sProp 𝕄 :=
  bigSep (ownRefs (thr L d).2 \ Finset.univ.image fun k => (thr L d).2.devRef (block7 k)) fun b => iprop(∃ f, ((d, b) : Loc nD τ sig) ↦{fullShare} f)

theorem sems_split :
    (ownSems0 (thr L d) : sProp 𝕄) = iprop((bigSep Finset.univ fun k => semVal ((thr L d, sem7 k) : GSem nD τ sig) 0) ∗ otherSems d L) := by
  unfold SparseCore.Cfg.ownSems0 otherSems
  rw [SparseCore.bigSep_sdiff_split' (s := ownCells (thr L d)) (t := Finset.univ.image fun k => ((thr L d, sem7 k) : GSem nD τ sig)) ?_,
    bigSep_image_of_injOn (fun k _ k' _ h => sem7_inj (congrArg Prod.snd h))]
  intro g hg
  obtain ⟨k, -, rfl⟩ := Finset.mem_image.mp hg
  refine mem_ownCells.mpr ⟨rfl, ?_⟩
  exact (show ∀ k, (sem7 k).isScoped .scVector = true by decide) k

theorem bufs_split :
    (ownBufs (thr L d) : sProp 𝕄)
      = iprop((bigSep Finset.univ fun k => iprop(∃ f, ((thr L d).loc (block7 k)) ↦{fullShare} f)) ∗ otherBufs d L) := by
  unfold SparseCore.Cfg.ownBufs otherBufs
  rw [SparseCore.bigSep_sdiff_split' (s := ownRefs (thr L d).2) (t := Finset.univ.image fun k => (thr L d).2.devRef (block7 k)) ?_,
    bigSep_image_of_injOn (fun k _ k' _ h => block7_inj (Proc.devRef_injective _ h))]
  intro b hb
  obtain ⟨k, -, rfl⟩ := Finset.mem_image.mp hb
  refine SparseCore.Cfg.mem_ownRefs_of_owner ?_
  match k with
  | 0 => rfl
  | 1 => rfl
  | 2 => rfl
  | 3 => rfl
  | 4 => rfl
  | 5 => rfl
  | 6 => rfl

variable [FloatOps F]

/-- The scratch the body is given. -/
abbrev scratchOf : sProp 𝕄 :=
  scratch (F := F) L (Memref.whole cc0_scratch0) (Memref.whole cc0_scratch1) (Memref.whole cc0_scratch2) (Memref.whole cc0_scratch3)
    (Memref.whole cc0_scratch4) (Memref.whole cc0_scratch5) (Memref.whole cc0_scratch6)
    cc0_scratch7 cc0_scratch8 cc0_scratch9 cc0_scratch10 cc0_scratch11 cc0_scratch12 cc0_scoped0 d

theorem scratch_split :
    (iprop(ownBufs (thr L d) ∗ ownSems0 (thr L d)) : sProp 𝕄) ⊢ iprop(scratchOf d L ∗ otherBufs d L ∗ otherSems d L) := by
  rw [sems_split, bufs_split, bigSep_seven, bigSep_seven]
  unfold scratchOf scratch
  simp only [owns_whole]
  iintro ⟨⟨⟨H0, H1, H2, H3, H4, H5, H6⟩, HB⟩, ⟨G0, G1, G2, G3, G4, G5, G6⟩, HG⟩
  isplitr [HB HG]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G0]; · iexact G0
    isplitl [G1]; · iexact G1
    isplitl [G2]; · iexact G2
    isplitl [G3]; · iexact G3
    isplitl [G4]; · iexact G4
    isplitl [G5]; · iexact G5
    iexact G6
  · isplitl [HB] <;> iassumption

theorem scratch_join :
    (iprop(scratchOf d L ∗ otherBufs d L ∗ otherSems d L) : sProp 𝕄) ⊢ iprop(ownBufs (thr L d) ∗ ownSems0 (thr L d)) := by
  rw [sems_split, bufs_split, bigSep_seven, bigSep_seven]
  unfold scratchOf scratch
  simp only [owns_whole]
  iintro ⟨⟨H0, H1, H2, H3, H4, H5, H6, G0, G1, G2, G3, G4, G5, G6⟩, HB, HG⟩
  isplitr [G0 G1 G2 G3 G4 G5 G6 HG]
  · isplitr [HB]
    · isplitl [H0]; · iexact H0
      isplitl [H1]; · iexact H1
      isplitl [H2]; · iexact H2
      isplitl [H3]; · iexact H3
      isplitl [H4]; · iexact H4
      isplitl [H5]; · iexact H5
      iexact H6
    · iexact HB
  · isplitr [HG]
    · isplitl [G0]; · iexact G0
      isplitl [G1]; · iexact G1
      isplitl [G2]; · iexact G2
      isplitl [G3]; · iexact G3
      isplitl [G4]; · iexact G4
      isplitl [G5]; · iexact G5
      iexact G6
    · iexact HG

end Scratch

end Cert.Proof.Launch

end
-- ==== Proof.Run.lean ====
/-
  The run of the whole program, over any float values: what the call's handshakes carry, the tiles' obligation, @main, and
  what the memory holds at the end.
-/
module

public import proofs.«01_k».proof.Proof.Launch

@[expose] public section

noncomputable section

namespace Cert.Proof.Run

open Cert.KernelIdeal Cert.KernelIdeal.Gen Cert.Proof.Row Cert.Proof.Group Cert.Proof.Turn Cert.Proof.Tile Cert.Proof.Chunks Cert.Proof.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split)

variable {F : FTy → Type}

local notation "𝕄" => MT nD τ sig (HIx 1) (Elt F) ℕ UU ℕ

variable (m : (ℓ : Loc nD τ sig) → Buf (Elt F) ℓ) (ρ : Dev nD → PrngReg)

/-! ## The weight -/

abbrev aLoc (d : Dev nD) : Loc nD τ sig := (SparseCore.T d).loc main_arg1
abbrev wLoc (d : Dev nD) : Loc nD τ sig := (SparseCore.T d).loc main_v0
abbrev wV : Memref sig .scVector .hbm S16 .f32 := Memref.whole main_v0_scv

/-- The weight as it is given, and the ground atoms. -/
def weight (d : Dev nD) : F .f32 := m (aLoc d) (fun a => a.elim0)
abbrev ground (d : Dev nD) : S65536x256.Idx → F .f32 := m (xLoc d)

/-- The read share of the staged weight that tile `s` of SparseCore `c` gets. -/
def tok (c : Fin 2) (s : Fin 16) : PosShare TreeShare := shareTok fullShare 32 (finProdFinEquiv (c, s))

/-- The staged weight, whole, gives every tile its share. -/
theorem weight_tiles (d : Dev nD) (f : S16.Idx → F .f32) :
    (wLoc d ↦{fullShare} f : sProp 𝕄) ⊢ bigSep Finset.univ fun c => bigSep Finset.univ fun s => owns (thr (coords c s) d) wV (tok c s) f := by
  have h : (bigSep Finset.univ fun i : Fin 32 => (wLoc d ↦{shareTok fullShare 32 i} f : sProp 𝕄))
      = bigSep Finset.univ fun c => bigSep Finset.univ fun s => owns (thr (coords c s) d) wV (tok c s) f := by
    rw [bigSep_univ_equiv (finProdFinEquiv (m := 2) (n := 16)), bigSep_univ_prod]
    refine bigSep_congr fun c _ => bigSep_congr fun s _ => ?_
    rw [owns_whole]
    rfl
  rw [← h]
  iintro H
  ihave H' := (pointsTo_toks_split fullShare 32) $$ H
  icases H' with ⟨-, H⟩
  iexact H

variable [FloatOps F]

/-! ## What the handshakes carry -/

/-- What tile `s` of SparseCore `c` is handed, and what it hands back. -/
def given (d : Dev nD) (c : Fin 2) (s : Fin 16) : sProp 𝕄 :=
  iprop(owns (thr (coords c s) d) wV (tok c s) (fun _ => weight m d) ∗ bigSep (Finset.range 16) (atoms (coords c s) xV d (ground m d))
    ∗ bigSep (Finset.range 16) (blanks (F := F) (coords c s) oV dV d))
def back (d : Dev nD) (c : Fin 2) (s : Fin 16) : sProp 𝕄 :=
  iprop(bigSep (Finset.range 16) (atoms (coords c s) xV d (ground m d))
    ∗ bigSep (Finset.range 16) (results (coords c s) oV dV d (ground m d) (clip (weight m d))))

instance given_storable (d : Dev nD) (c : Fin 2) (s : Fin 16) : BI.Storable (upEmb : UEmb _ 𝕄) (given m d c s) := by
  unfold given atoms blanks blank
  infer_instance
instance back_storable (d : Dev nD) (c : Fin 2) (s : Fin 16) : BI.Storable (upEmb : UEmb _ 𝕄) (back m d c s) := by
  unfold back atoms results written
  infer_instance

attribute [irreducible] given back

/-- The call's payloads: a SparseCore's is its sixteen tiles'. -/
def P : (K (F := F)).Pay (nD := nD) (Val := Elt F) (Name := ℕ) (U := UU) where
  st := fun q d c => match q with | 0 => bigSep Finset.univ fun s : Fin 16 => given m d (Fin.cast nCore_zero c) s
  dn := fun q d c => match q with | 0 => bigSep Finset.univ fun s : Fin 16 => back m d (Fin.cast nCore_zero c) s
  go := fun q d c i => match q with | 0 => given m d (Fin.cast nCore_zero c) (Fin.cast nSub_zero i)
  td := fun q d c i => match q with | 0 => back m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => given m d (Fin.cast nCore_zero c) s))
  dn q d c := match q with
    | 0 => (inferInstance : BI.Storable (upEmb : UEmb _ 𝕄) (bigSep Finset.univ fun s : Fin 16 => back m d (Fin.cast nCore_zero c) s))
  go q d c i := match q with
    | 0 => (inferInstance : BI.Storable (upEmb : UEmb _ 𝕄) (given m d (Fin.cast nCore_zero c) (Fin.cast nSub_zero i)))
  td q d c i := match q with
    | 0 => (inferInstance : BI.Storable (upEmb : UEmb _ 𝕄) (back m d (Fin.cast nCore_zero c) (Fin.cast nSub_zero i)))

/-! ## A tile's obligation -/

/-- The body at a tile, on the program's own arrays, blocks and semaphores. -/
abbrev bodyOf (L : grid0.Coords) : Prog (TpuEff nD τ sig (Elt F) Λ₀ (.scVector ((L 0).castLE hcore0) ((L 1).castLE hsub0))) PUnit :=
  cc0__sc_body L xV (Memref.isWhole_whole _) wV (Memref.isWhole_whole _) oV (Memref.isWhole_whole _) dV (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scratch11 cc0_scratch12 cc0_scoped0

theorem tile_body (d : Dev nD) (c : Fin 2) (s : Fin 16) (hF : (K (F := F)).Facts) (O : CellTallies nD τ sig (HIx 1)) (W : Waits sig (HIx 1))
    (hO : ∀ g, O g none = 0) :
    (iprop(levAts (K (F := F)).L (K (F := F)).lev ∗ emp ∗ given m d c s
        ∗ scopedBufs (thr (coords c s) d) ∗ scopedSems0 (thr (coords c s) d) ∗ owes (thr (coords c s) d) O W) : sProp 𝕄)
      ⊢ wp frame (wpE (defs₀ (F := F)) 𝒱₀ (thr (coords c s) d) none) Set.univ (bodyOf (coords c s))
          fun _ => iprop(back m d c s ∗ scopedBufs (thr (coords c s) d) ∗ scopedSems0 (thr (coords c s) d)
            ∗ ∃ W', ⌜∀ p ∈ W', p ∈ W ∨ p.2 = none⌝ ∗ owes (thr (coords c s) d) O W') := by
  rw [(K (F := F)).scopedBufs_V hF d, SparseCore.Cfg.scopedSems0_V (Val := Elt F) d]
  iintro ⟨#Hlv, -, HG, HB, HS, HO⟩
  ihave Hmw := (show levAts (K (F := F)).L (K (F := F)).lev ⊢ Transfers.MayWaits (thr (coords c s) d) (none : HIx 1) O from
    (K (F := F)).mayWaits_none (thr := thr (coords c s) d) hO) $$ Hlv
  ihave HG' := (show given m d c s ⊢ iprop(owns (thr (coords c s) d) wV (tok c s) (fun _ => weight m d)
    ∗ bigSep (Finset.range 16) (atoms (coords c s) xV d (ground m d)) ∗ bigSep (Finset.range 16) (blanks (F := F) (coords c s) oV dV d)) from by unfold given; exact .rfl) $$ HG
  icases HG' with ⟨Hw, Ha, Hb⟩
  ihave HBS := (scratch_split d (coords c s)) $$ [HB HS]
  · isplitl [HB] <;> iassumption
  icases HBS with ⟨Hscr, Hob, Hos⟩
  iapply (wp_wand_r frame (wpE (defs₀ (F := F)) 𝒱₀ (thr (coords c s) d) none) (E := Set.univ))
  isplitl [Hw Ha Hb Hscr HO Hmw]
  · iapply (body (coords c s) xV (Memref.isWhole_whole _) wV (Memref.isWhole_whole _) oV (Memref.isWhole_whole _) dV (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _)
      cc0_scratch7 cc0_scratch8 cc0_scratch9 cc0_scratch10 cc0_scratch11 cc0_scratch12 cc0_scoped0 d 𝒱₀ none (none : HIx 1)
      (ground m d) (clip (weight m d)) O W (weight m d) rfl)
    isplitl [Hmw]; · iexact Hmw
    isplitl [HO]
    · unfold owing
      iexists W
      isplitr; · ipureintro; exact fun p hp => .inl hp
      iexact HO
    isplitl [Hw]; · iexact Hw
    isplitl [Ha]; · iexact Ha
    isplitl [Hb]; · iexact Hb
    iexact Hscr
  iintro %u ⟨HO, -, Ha, Hr, Hscr⟩
  ihave HBS := (scratch_join (F := F) d (coords c s)) $$ [Hscr Hob Hos]
  · isplitl [Hscr]; · iexact Hscr
    isplitl [Hob] <;> iassumption
  icases HBS with ⟨HB, HS⟩
  isplitl [Ha Hr]
  · unfold back
    isplitl [Ha] <;> iassumption
  isplitl [HB]; · iexact HB
  isplitl [HS]; · iexact HS
  unfold owing
  iexact HO

theorem defs₀_vector (c : Fin τ.nSC) (s : Fin τ.nSub) :
    defs₀ (F := F) (.scVector c s) 0 () = SparseCore.onTile hcore0 hsub0 (fun c s => bodyOf (F := F) (coords c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (Fin.cast nCore_zero c) (Fin.cast nSub_zero i) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show bigSep Finset.univ (fun s : Fin 16 => given m d (Fin.cast nCore_zero c) s) ⊢ |={Set.univ}=> iprop(
      (bigSep Finset.univ fun i : Fin ((K (F := F)).nSub 0) => given m d (Fin.cast nCore_zero c) (Fin.cast nSub_zero i))
      ∗ ((bigSep Finset.univ fun i : Fin ((K (F := F)).nSub 0) => back m d (Fin.cast nCore_zero c) (Fin.cast nSub_zero i))
          -∗ bigSep Finset.univ fun s : Fin 16 => back m d (Fin.cast nCore_zero c) s))
  rw [bigSep_tasks (F := F) (fun s => given m d (Fin.cast nCore_zero c) s), bigSep_tasks (F := F) (fun s => back m d (Fin.cast nCore_zero c) s)]
  iintro H
  imodintro
  isplitl [H]; · iexact H
  iintro H
  iexact H

/-! ## The ghost state the program starts with -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

abbrev a' : DevRef τ sig := Proc.devRef .tc (main_arg1 : Ref sig .tc)
abbrev w' : DevRef τ sig := Proc.devRef .tc (main_v0 : Ref sig .tc)
abbrev S2 : Finset (DevRef τ sig) := {a', w'}

/-- The broadcast of the weight to sixteen lanes. -/
abbrev opBc : HloOp τ sig (Elt F) :=
  StableHlo.unary main_arg1 main_v0 (broadcastInDim S16 ![] bcast_S_S16 : (⟨S_, .f32⟩ : BufTy).Contents (Elt F) → (⟨S16, .f32⟩ : BufTy).Contents (Elt F))

def V0 (d : Dev nD) : Valuation τ sig (Elt F) := fun b => m (d, b)

omit [FloatOps F] in
theorem held_S2 (d : Dev nD) (W : Valuation τ sig (Elt F)) :
    (held (T d) S2 W : sProp 𝕄) = iprop((aLoc d ↦{fullShare} W a') ∗ wLoc d ↦{fullShare} W w') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg1) ∗ (wLoc d ↦{fullShare} W main_v0)
          ∗ (oLoc d ↦{fullShare} W main_v1_0) ∗ dLoc d ↦{fullShare} W main_v1_1) := by
  unfold unscopedBufs
  rw [show (Finset.univ.filter fun b : Ref sig .tc => ¬ b.isScoped) = {main_arg0, main_arg1, main_v0, main_v1_0, main_v1_1} by decide,
    SparseCore.bigSep_insert' (by decide), SparseCore.bigSep_insert' (by decide), SparseCore.bigSep_insert' (by decide),
    SparseCore.bigSep_insert' (by decide), bigSep_singleton]

theorem hBc : (opBc (F := F)).bufs ⊆ S2 := show ({a', w'} : Finset (DevRef τ sig)) ⊆ S2 by decide

/-- After the broadcast: the weight as given, and sixteen copies of it. -/
theorem held_after (d : Dev nD) :
    (held (T d) S2 ((opBc (F := F)).result (V0 m d)) : sProp 𝕄)
      = iprop((aLoc d ↦{fullShare} m (aLoc d)) ∗ wLoc d ↦{fullShare} fun _ => weight m d) := by
  rw [held_S2, (opBc (F := F)).result_of_not_mem (V0 m d) (b := a') (show a' ∉ ({w'} : Finset (DevRef τ sig)) by decide),
    show (opBc (F := F)).result (V0 m d) w' = (fun _ => weight m d) from
      (StableHlo.unary_result _ _ _ _ _ _).trans (funext fun i => congrArg (m (aLoc d)) (funext fun a => a.elim0))]
  rfl

/-- All tiles are handed what they need. -/
theorem st0_of (d : Dev nD) (f : S65536x256.Idx → F .f32) (g : S65536x8.Idx → F .f32) :
    (iprop((xLoc d ↦{fullShare} ground m d) ∗ (wLoc d ↦{fullShare} fun _ => weight m d) ∗ (oLoc d ↦{fullShare} f) ∗ dLoc d ↦{fullShare} g) : sProp 𝕄)
      ⊢ bigSep Finset.univ fun c : Fin ((K (F := F)).nCore 0) => (P m).st 0 d c := by
  show _ ⊢ bigSep Finset.univ fun c : Fin ((K (F := F)).nCore 0) => bigSep Finset.univ fun s : Fin 16 => given m d (Fin.cast nCore_zero c) s
  rw [bigSep_cores (F := F) (fun c => bigSep Finset.univ fun s : Fin 16 => given m d c s)]
  simp only [given, bigSep_sep']
  iintro ⟨Hx, Hw, Ho, Hd⟩
  isplitl [Hw]
  · iapply (weight_tiles d (fun _ => weight m d)); iexact Hw
  isplitl [Hx]
  · iapply (Entails.of_eq (atoms_tiles d (ground m d))); iexact Hx
  iapply (blanks_tiles d f g)
  isplitl [Ho] <;> iassumption

/-- All tiles' results, together. -/
theorem dn0_to (d : Dev nD) :
    (bigSep Finset.univ fun c : Fin ((K (F := F)).nCore 0) => (P m).dn 0 d c)
      ⊢ (iprop((xLoc d ↦{fullShare} ground m d) ∗ (oLoc d ↦{fullShare} scattered (clip (weight m d)) (ground m d))
          ∗ dLoc d ↦{fullShare} deltas (clip (weight m d)) (ground m d)) : sProp 𝕄) := by
  show (bigSep Finset.univ fun c : Fin ((K (F := F)).nCore 0) => bigSep Finset.univ fun s : Fin 16 => back m d (Fin.cast nCore_zero c) s) ⊢ _
  rw [bigSep_cores (F := F) (fun c => bigSep Finset.univ fun s : Fin 16 => back m d c s), atoms_tiles, results_tiles]
  simp only [back, bigSep_sep']
  exact .rfl

/-- What @main leaves: the arguments as they were, and the two results. -/
abbrev FIN (d : Dev nD) : sProp 𝕄 :=
  iprop((xLoc d ↦{fullShare} ground m d) ∗ (aLoc d ↦{fullShare} m (aLoc d)) ∗ (oLoc d ↦{fullShare} scattered (clip (weight m d)) (ground m d))
    ∗ dLoc d ↦{fullShare} deltas (clip (weight m d)) (ground m d))

/-- @main: the broadcast, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ha, Hw, Ho, Hd⟩, Hts, -⟩, -⟩
  iapply (wp_hlo_within 𝒱 (SparseCore.T d) none Set.univ (op := opBc) (S := S2) hBc (V := V0 m d)) $$ [Hb Ha Hw]
  · isplitl [Hb]; · iexact Hb
    iapply (Entails.of_eq (held_S2 (F := F) d (V0 m d)).symm)
    isplitl [Ha]; · iexact Ha
    iexact Hw
  iintro ⟨Hb, Hheld⟩
  ihave Hh := (Entails.of_eq (held_after (F := F) m d)) $$ Hheld
  icases Hh with ⟨Ha, Hw⟩
  rw [wp_ret]; imodintro
  iapply ((K (F := F)).wp_run (D (F := F)) 𝒱 (EH := EH) (P := P m) κ d 0) $$ [Hst Hx Ha Hw Ho Hd Hb Hts]
  isplitr; · iexact Hctx
  isplitl [Hst]; · iexact Hst
  isplitl [Hx Hw Ho Hd]
  · iapply (st0_of m d _ _)
    isplitl [Hx]; · iexact Hx
    isplitl [Hw]; · iexact Hw
    isplitl [Ho]; · iexact Ho
    iexact Hd
  iintro ⟨Hst, Hdn⟩
  ihave Hdn' := (dn0_to m d) $$ Hdn
  icases Hdn' with ⟨Hx, Ho, Hd⟩
  imodintro
  isplitl [Hst]; · iexact Hst
  isplitr [Hb Hts]
  · isplitl [Hx]; · iexact Hx
    isplitl [Ha]; · iexact Ha
    isplitl [Ho]; · iexact Ho
    iexact Hd
  isplitl [Hb] <;> iassumption

/-! ## What the memory holds at the end -/

/-- Device `d`'s arguments as they were, and its two results. -/
def fq (d : Dev nD) (s' : Phys nD τ sig (Elt F)) : Prop :=
  s'.mem.mem (oLoc d) = scattered (clip (weight m d)) (ground m d) ∧ s'.mem.mem (dLoc d) = deltas (clip (weight m d)) (ground m d)
    ∧ s'.mem.mem (xLoc d) = m (xLoc d) ∧ s'.mem.mem (aLoc d) = m (aLoc d)

set_option maxRecDepth 16384 in
theorem hfin (d : Dev nD) (s' : Phys nD τ sig (Elt F)) : iprop(FIN m d ∗ SI s') ⊢ (⌜fq m d s'⌝ : sProp 𝕄) := by
  iintro ⟨⟨Hx, Ha, Ho, Hd⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (persistent_entails_right (SI_pointsTo_agree (st := s') (ℓ := oLoc d) (I := Finset.univ) (q := fullShare)
    (f := scattered (clip (weight m d)) (ground m d)))) $$ [HSI Ho]
  · isplitl [HSI] <;> iassumption
  icases H with ⟨%h3, HSI, -⟩
  ihave H := (SI_pointsTo_agree (st := s') (ℓ := dLoc d) (I := Finset.univ) (q := fullShare)
    (f := deltas (clip (weight m d)) (ground m d))) $$ [HSI Hd]
  · isplitl [HSI] <;> iassumption
  icases H with %h4
  ipureintro
  exact ⟨funext fun i => h3 i (Finset.mem_univ i), funext fun i => h4 i (Finset.mem_univ i),
    funext fun i => h1 i (Finset.mem_univ i), funext fun i => h2 i (Finset.mem_univ i)⟩

/-- The end of a run: every device's results and arguments as said, and every semaphore at zero. -/
def QC : PUnit × MemSt nD τ sig (Elt F) → Prop := fun r =>
  (∀ c : Dev nD, r.2.mem (oLoc c) = scattered (clip (weight m c)) (ground m c) ∧ r.2.mem (dLoc c) = deltas (clip (weight m c)) (ground m c)
    ∧ r.2.mem (xLoc c) = m (xLoc c) ∧ r.2.mem (aLoc c) = m (aLoc c)) ∧ r.2.sem = fun _ => 0

/-- The run of the program, over any float values. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Run

end
-- ==== Proof.Take.lean ====
/-
  Columns taken from an array and put back, as the host does it: the gather of `n` columns of an array of rows, and the
  scatter that sets them, read at one element.
-/
module

public import Idealize.ShloMosaic.Lib.PointwiseCore
public import Idealize.ShloMosaic.Lib.Routing.OpsSet

@[expose] public section

noncomputable section

namespace Cert.Proof.Take

open Idealize.ShloMosaic

variable {α : Type} {R C n w : ℕ}

/-- The dimension numbers of `x[:, cols]`. -/
abbrev gatherDims (R C n : ℕ) (wf : GatherDims.WF ⟨2, ![R, C]⟩ ⟨2, ![n, 1]⟩ ⟨2, ![R, n]⟩ [0] [1] [] [1] [] 1 ![R, 1]) :
    GatherDims ⟨2, ![R, C]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- The dimension numbers of `x.at[:, cols].set(u)`. -/
abbrev scatterDims (R C n : ℕ) (wf : ScatterDims.WF ⟨2, ![R, C]⟩ ⟨2, ![n, 1]⟩ ⟨2, ![R, n]⟩ [0] [1] [1] 1) :
    ScatterDims ⟨2, ![R, C]⟩ ⟨2, ![n, 1]⟩ ⟨2, ![R, n]⟩ where
  updateWindowDims := [0]
  insertedWindowDims := [1]
  scatterDimsToOperandDims := [1]
  indexVectorDim := 1
  wf := wf

/-- A gathered element is the array's, in the column its index word names. -/
theorem gather_cols (wf : GatherDims.WF ⟨2, ![R, C]⟩ ⟨2, ![n, 1]⟩ ⟨2, ![R, n]⟩ [0] [1] [] [1] [] 1 ![R, 1])
    (x : (⟨2, ![R, C]⟩ : Shape).Idx → α) (idx : IVec ⟨2, ![n, 1]⟩ w) (r : Fin R) (l : Fin n) (c : Fin C)
    (hc : (idx (ix2 l 0)).toInt = c.val) :
    Host.gather (gatherDims R C n wf) x idx (ix2 r l) = x (ix2 r c) := by
  unfold Host.gather
  congr 1
  funext a
  refine Fin.ext ?_
  show (gatherDims R C n wf).start (ix2 r l) idx a + (gatherDims R C n wf).batchCoord (ix2 r l) a
      + (gatherDims R C n wf).offCoord (ix2 r l) a = _
  have h01 : a = 0 ∨ a = 1 := match a with
    | ⟨0, _⟩ => Or.inl rfl
    | ⟨1, _⟩ => Or.inr rfl
  rcases h01 with rfl | rfl
  · rw [GatherDims.batchCoord_eq_zero _ _ _ List.not_mem_nil]
    unfold GatherDims.start
    rw [dif_neg (fun h => (show (0 : Fin 2) ≠ 1 by decide) (List.mem_singleton.mp h))]
    unfold GatherDims.offCoord
    rw [dif_pos ((GatherDims.mem_sKept _ _).mpr ⟨fun h => (show (0 : Fin 2) ≠ 1 by decide) (List.mem_singleton.mp h), List.not_mem_nil⟩)]
    exact (Nat.zero_add _)
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ (gatherDims R C n wf).startIndexMap from List.mem_singleton.mpr rfl)]
    have hsi : (gatherDims R C n wf).siIdx (ix2 r l) ⟨List.idxOf (1 : Fin 2) (gatherDims R C n wf).startIndexMap,
        List.idxOf_lt_length_iff.2 (List.mem_singleton.mpr rfl)⟩ = ix2 l 0 := by
      funext b
      match b with
      | ⟨0, _⟩ => rfl
      | ⟨1, _⟩ => rfl
    rw [hsi, hc]
    show min c.val (C - 1) = c.val
    have := c.isLt
    omega

/-- Where an update of the scatter lands: in its own row, in the column its index word names. -/
theorem lands (wf : ScatterDims.WF ⟨2, ![R, C]⟩ ⟨2, ![n, 1]⟩ ⟨2, ![R, n]⟩ [0] [1] [1] 1)
    (idx : IVec ⟨2, ![n, 1]⟩ w) (r r' : Fin R) (l : Fin n) (c : Fin C) :
    (scatterDims R C n wf).resultIdx? (ix2 r l) idx = some (ix2 r' c) ↔ r = r' ∧ (idx (ix2 l 0)).toInt = c.val := by
  have hkept : (scatterDims R C n wf).sKept = [0] := rfl
  have w0 : (scatterDims R C n wf).window (ix2 r l) 0 = r.val := by
    unfold ScatterDims.window
    rw [dif_pos (show (0 : Fin 2) ∈ (scatterDims R C n wf).sKept by rw [hkept]; exact List.mem_singleton.mpr rfl)]
    rfl
  have w1 : (scatterDims R C n wf).window (ix2 r l) 1 = 0 := by
    unfold ScatterDims.window
    exact dif_neg (show (1 : Fin 2) ∉ (scatterDims R C n wf).sKept by
      rw [hkept]; exact fun h => (show (1 : Fin 2) ≠ 0 by decide) (List.mem_singleton.mp h))
  have s0 : (scatterDims R C n wf).start (ix2 r l) idx 0 = 0 := by
    unfold ScatterDims.start
    exact dif_neg (fun h => (show (0 : Fin 2) ≠ 1 by decide) (List.mem_singleton.mp h))
  have s1 : (scatterDims R C n wf).start (ix2 r l) idx 1 = (idx (ix2 l 0)).toInt := by
    unfold ScatterDims.start
    rw [dif_pos (show (1 : Fin 2) ∈ (scatterDims R C n wf).scatterDimsToOperandDims from List.mem_singleton.mpr rfl)]
    refine congrArg (fun i => (idx i).toInt) ?_
    funext b
    match b with
    | ⟨0, _⟩ => rfl
    | ⟨1, _⟩ => rfl
  rw [Routing.resultIdx?_eq_some]
  constructor
  · intro h
    have h0 := h 0
    have h1 := h 1
    rw [w0, s0] at h0
    rw [w1, s1] at h1
    exact ⟨Fin.ext (by have : (r.val : ℤ) = r'.val := (zero_add _).symm.trans h0; exact_mod_cast this),
      (add_zero _).symm.trans (by simpa using h1)⟩
  · rintro ⟨rfl, h⟩ a
    have h01 : a = 0 ∨ a = 1 := match a with
      | ⟨0, _⟩ => Or.inl rfl
      | ⟨1, _⟩ => Or.inr rfl
    rcases h01 with rfl | rfl
    · rw [w0, s0]; exact zero_add _
    · rw [w1, s1, h]; exact add_zero _

/-- The scatter read in a column that one index word names, no other naming it: that word's update. -/
theorem scatter_cols_hit (wf : ScatterDims.WF ⟨2, ![R, C]⟩ ⟨2, ![n, 1]⟩ ⟨2, ![R, n]⟩ [0] [1] [1] 1)
    (x : (⟨2, ![R, C]⟩ : Shape).Idx → α) (idx : IVec ⟨2, ![n, 1]⟩ w) (u : (⟨2, ![R, n]⟩ : Shape).Idx → α) (r : Fin R) (l : Fin n) (c : Fin C)
    (hc : ∀ l', (idx (ix2 l' 0)).toInt = c.val ↔ l' = l) :
    Host.scatter (scatterDims R C n wf) (fun _ b => b) x idx u (ix2 r c) = u (ix2 r l) := by
  refine Routing.scatter_set_hit _ x idx u _ _ (fun k hk => ?_) (ix2 r l) ((lands wf idx r r l c).mpr ⟨rfl, (hc l).mpr rfl⟩)
  rw [eq_ix2 k] at hk ⊢
  obtain ⟨h0, h1⟩ := (lands wf idx _ _ _ _).mp hk
  rw [h0, (hc _).mp h1]

/-- The scatter read in a column that no index word names: the operand. -/
theorem scatter_cols_miss (wf : ScatterDims.WF ⟨2, ![R, C]⟩ ⟨2, ![n, 1]⟩ ⟨2, ![R, n]⟩ [0] [1] [1] 1)
    (x : (⟨2, ![R, C]⟩ : Shape).Idx → α) (idx : IVec ⟨2, ![n, 1]⟩ w) (u : (⟨2, ![R, n]⟩ : Shape).Idx → α) (r : Fin R) (c : Fin C)
    (hc : ∀ l, (idx (ix2 l 0)).toInt ≠ c.val) :
    Host.scatter (scatterDims R C n wf) (fun _ b => b) x idx u (ix2 r c) = x (ix2 r c) := by
  refine Routing.scatter_set_miss _ x idx u _ fun k hk => ?_
  rw [eq_ix2 k] at hk
  exact hc _ ((lands wf idx _ _ _ _).mp hk).2

end Cert.Proof.Take

end
-- ==== Proof.Share.lean ====
/-
  The equation, over the extended reals: where the largest of a row's signed literals is finite, the kernel's share, the
  exponential times the weight over the sum, signed, is the reference's, the signed weight times the exponential over the sum.
-/
module

public import proofs.«01_k».proof.Proof.Row
public import Idealize.ShloMosaic.PureOps.Ideal

@[expose] public section

noncomputable section

namespace Cert.Proof.Share

open Idealize.ShloMosaic Cert.Proof.Row

/-- The word of minus infinity. -/
theorem ninf : Ideal.ofBits .f32 0xFF800000#32 = ⊥ := by
  simp [Ideal.ofBits, Ideal.ieee]

/-- The word of infinity. -/
theorem pinf : Ideal.ofBits .f32 0x7F800000#32 = ⊤ := by
  simp [Ideal.ofBits, Ideal.ieee]

/-- The largest of eight, as the reference takes it. -/
def most (z : Fin 8 → EReal) : EReal :=
  max (Ideal.ofBits .f32 0xFF800000#32) (Finset.fold max (Ideal.ofBits .f32 0xFF800000#32) z Finset.univ)

/-- The row of `delta`, as the reference computes it. -/
def share (w : EReal) (z s : Fin 8 → EReal) (l : Fin 8) : EReal :=
  (w * s l) * Ideal.div (Ideal.exp (z l - most z)) (∑ k, Ideal.exp (z k - most z))

/-- The fold is the largest. -/
theorem fold_eq (z : Fin 8 → EReal) : Finset.fold max (Ideal.ofBits .f32 0xFF800000#32) z Finset.univ = most z := by
  rw [most, ninf, max_eq_right bot_le]

/-- Each of the eight is at most the largest. -/
theorem le_most (z : Fin 8 → EReal) (l : Fin 8) : z l ≤ most z :=
  (Finset.le_fold_max (z l)).mpr (Or.inr ⟨l, Finset.mem_univ l, le_rfl⟩) |>.trans (le_max_right _ _)

/-- Above `⊥`, the largest is one of the eight. -/
theorem most_mem (z : Fin 8 → EReal) (h : most z ≠ ⊥) : ∃ l, z l = most z := by
  have hle : most z ≤ Finset.fold max (Ideal.ofBits .f32 0xFF800000#32) z Finset.univ := (fold_eq z).ge
  rcases (Finset.le_fold_max _).mp hle with h0 | ⟨l, -, hl⟩
  · rw [ninf] at h0
    exact absurd (le_bot_iff.mp h0) h
  · exact ⟨l, (le_most z l).antisymm hl⟩

/-- The kernel's largest is the reference's. -/
theorem top_eq (z : Fin 8 → EReal) : (top (F := Ideal) z : EReal) = most z := by
  show max (max (max (max (max (max (max (z 0) (z 1)) (z 2)) (z 3)) (z 4)) (z 5)) (z 6)) (z 7) = _
  refine le_antisymm (by simp only [max_le_iff, le_most, and_self]) ?_
  rw [← fold_eq, ninf, Finset.fold_max_le]
  refine ⟨bot_le, fun l _ => ?_⟩
  fin_cases l <;> simp

/-- The kernel's sum is the reference's. -/
theorem tot_eq (e : Fin 8 → EReal) : (tot (F := Ideal) e : EReal) = ∑ k, e k := by
  rw [Fin.sum_univ_eight]
  rfl

/-- An exponential is not negative. -/
theorem exp_nonneg (x : EReal) : 0 ≤ Ideal.exp x := by
  induction x with
  | bot => exact le_rfl
  | top => exact le_top
  | coe r => exact EReal.coe_nonneg.mpr (Real.exp_pos r).le

/-- Where the largest is finite the sum is not zero: the largest's own term is one. -/
theorem sum_ne_zero (z : Fin 8 → EReal) (hb : most z ≠ ⊥) (ht : most z ≠ ⊤) : (∑ k, Ideal.exp (z k - most z)) ≠ 0 := by
  obtain ⟨l, hl⟩ := most_mem z hb
  have h1 : Ideal.exp (z l - most z) = 1 := by
    rw [hl]
    lift most z to ℝ using ⟨ht, hb⟩ with r
    rw [← EReal.coe_sub, sub_self, Ideal.exp_coe, Real.exp_zero, EReal.coe_one]
  have h := Finset.single_le_sum (f := fun k => Ideal.exp (z k - most z)) (fun k _ => exp_nonneg _) (Finset.mem_univ l)
  rw [h1] at h
  exact fun h0 => absurd (h0 ▸ h) (by norm_num)

/-- The equation. -/
theorem delta_eq (w : EReal) (x : Fin 256 → EReal) (hb : most (lit (F := Ideal) x) ≠ ⊥) (ht : most (lit (F := Ideal) x) ≠ ⊤) (l : Fin 8) :
    (delta (F := Ideal) w x l : EReal) = share w (lit (F := Ideal) x) (sgn (F := Ideal)) l := by
  have he : ∀ k, (expd (F := Ideal) (lit (F := Ideal) x) k : EReal) = Ideal.exp (lit (F := Ideal) x k - most (lit (F := Ideal) x)) := fun k => by
    rw [← top_eq]; rfl
  have hs : (tot (F := Ideal) (expd (F := Ideal) (lit (F := Ideal) x)) : EReal) = ∑ k, Ideal.exp (lit (F := Ideal) x k - most (lit (F := Ideal) x)) := by
    rw [tot_eq]; exact Finset.sum_congr rfl fun k _ => he k
  show (expd (F := Ideal) (lit (F := Ideal) x) l : EReal) * Ideal.div w (tot (F := Ideal) (expd (F := Ideal) (lit (F := Ideal) x))) * sgn (F := Ideal) l = _
  rw [share, hs, he, Ideal.div, Ideal.div, if_neg (sum_ne_zero _ hb ht), if_neg (sum_ne_zero _ hb ht)]
  ac_rfl

end Cert.Proof.Share

end
-- ==== Proof.Reference.lean ====
/-
  What the reference computes, element by element: the signed literals of a row, their exponentials less the row's
  largest, each over the sum of the eight, times the signed weight; and the same put back at the clause's columns.
-/
module

public import proofs.«01_k».proof.Proof.Row
public import proofs.«01_k».proof.Proof.Take
public import proofs.«01_k».proof.Proof.Share
public import proofs.«01_k».proof.Proof.Gen.ReferenceIdeal.Run
public import Idealize.ShloMosaic.PureOps.Ideal
public import Idealize.ShloMosaic.Lib.Pointwise
public import Idealize.ShloMosaic.Lib.ReduceAll

@[expose] public section

noncomputable section

namespace Cert.Proof.Reference

open Idealize.ShloMosaic Cert.ReferenceIdeal Cert.ReferenceIdeal.Gen Cert.Proof.Row

/-- The columns, as the reference holds them: negative ones would count from the end. -/
abbrev words : IVec S8x1 32 :=
  broadcastInDim S8x1 ![0] bcast_S8_S8x1_0 (select (cmpi .slt ((fun i => lit0 (S8.rowMajor i))) (broadcastInDim S8 ![] bcast_S_S8 (constantI S_ 32 0#32)))
    (addi ((fun i => lit0 (S8.rowMajor i))) (broadcastInDim S8 ![] bcast_S_S8 (constantI S_ 32 256#32))) ((fun i => lit0 (S8.rowMajor i))))

/-- The column word of each literal. -/
theorem words_at (l : Fin 8) (z : Fin 1) : words (ix2 l z) = BitVec.ofNat 32 (col l).val := by
  pointwise [words]
  fin_cases l <;> rfl

/-- The word read as an integer. -/
theorem words_toInt (l : Fin 8) (z : Fin 1) : (words (ix2 l z)).toInt = (col l).val := by
  rw [words_at]
  revert l
  decide

/-- Every column is in the row. -/
theorem mask_at (j : S8.Idx) :
    Host.reduce IntOp.andi (andi (cmpi .sge words (broadcastInDim S8x1 ![] bcast_S_S8x1 (constantI S_ 32 0#32)))
      (cmpi .sle words (broadcastInDim S8x1 ![0, 1] bcast_S1x1_S8x1_0_1 (broadcastInDim S1x1 ![1] bcast_S1_S1x1_1 (constantI S1 32 255#32)))))
      (constantI S_ 1 1#1) reducesTo_S8x1_S8_d1 h_S_ j = 1#1 := by
  refine Host.reduce_andi_one _ _ _ _ _ rfl fun i => ?_
  rw [eq_ix2 i]
  generalize i 0 = l
  generalize i 1 = z
  change Fin 8 at l
  change Fin 1 at z
  show IntOp.andi (IntOp.cmpi .sge (words (ix2 l z)) 0#32) (IntOp.cmpi .sle (words (ix2 l z)) 255#32) = 1#1
  rw [words_at]
  revert l
  decide

variable {F : FTy → Type} [FloatOps F]

/-- The eight columns of an array, as the reference takes them. -/
abbrev taken (X : FVec F S65536x256 .f32) : FVec F S65536x8 .f32 :=
  select (broadcastInDim S65536x8 ![1] bcast_S8_S65536x8_1 (Host.reduce IntOp.andi
      (andi (cmpi .sge words (broadcastInDim S8x1 ![] bcast_S_S8x1 (constantI S_ 32 0#32)))
        (cmpi .sle words (broadcastInDim S8x1 ![0, 1] bcast_S1x1_S8x1_0_1 (broadcastInDim S1x1 ![1] bcast_S1_S1x1_1 (constantI S1 32 255#32)))))
      (constantI S_ 1 1#1) reducesTo_S8x1_S8_d1 h_S_))
    (Host.gather gather_S65536x256_S8x1_S65536x8_0_1_n_n_1_1_655361 X words)
    (broadcastInDim S65536x8 ![] bcast_S_S65536x8 (constant S_ .f32 0x7FC00000#32))

/-- What is taken is the literal's column. -/
theorem taken_at (X : FVec F S65536x256 .f32) (r : Fin 65536) (l : Fin 8) : taken X (ix2 r l) = X (ix2 r (col l)) := by
  have hm : (broadcastInDim S65536x8 ![1] bcast_S8_S65536x8_1 (Host.reduce IntOp.andi
      (andi (cmpi .sge words (broadcastInDim S8x1 ![] bcast_S_S8x1 (constantI S_ 32 0#32)))
        (cmpi .sle words (broadcastInDim S8x1 ![0, 1] bcast_S1x1_S8x1_0_1 (broadcastInDim S1x1 ![1] bcast_S1_S1x1_1 (constantI S1 32 255#32)))))
      (constantI S_ 1 1#1) reducesTo_S8x1_S8_d1 h_S_)) (ix2 r l) = 1#1 := mask_at _
  have hg : Host.gather gather_S65536x256_S8x1_S65536x8_0_1_n_n_1_1_655361 X words (ix2 r l) = X (ix2 r (col l)) :=
    Take.gather_cols _ X words r l (col l) (words_toInt l 0)
  show Scalar.select _ _ _ = _
  rw [hm, hg]
  rfl

/-- The signs, as the reference holds them. -/
theorem signs_at (l : Fin 8) : (FloatOps.ofBits .f32 (lit1 (S8.rowMajor (ix1 l))) : F .f32) = sgn l := by
  fin_cases l <;> rfl

/-- The weight, as the reference clips it. -/
abbrev clipped (w : FVec F S_ .f32) : FVec F S_ .f32 :=
  minimumf (id (constant S_ .f32 0x43FA0000#32)) (maximumf (id (constant S_ .f32 0x00000000#32)) w)

/-- `delta` from the columns taken, as the reference computes it. -/
abbrev shares (T : FVec F S65536x8 .f32) (w : FVec F S_ .f32) (sg : FVec F S8 .f32) : FVec F S65536x8 .f32 :=
  have z : FVec F S65536x8 .f32 := mulf T (broadcastInDim S65536x8 ![0, 1] bcast_S1x8_S65536x8_0_1 (broadcastInDim S1x8 ![1] bcast_S8_S1x8_1 sg))
  have e : FVec F S65536x8 .f32 := Host.exp (subf z (broadcastInDim S65536x8 ![0, 1] bcast_S65536x1_S65536x8_0_1
    (broadcastInDim S65536x1 ![0] bcast_S65536_S65536x1_0 (maximumf (broadcastInDim S65536 ![] bcast_S_S65536 (constant S_ .f32 0xFF800000#32))
      (Host.reduce FloatOps.maximumf z (constant S_ .f32 0xFF800000#32) reducesTo_S65536x8_S65536_d1 h_S_)))))
  mulf (broadcastInDim S65536x8 ![0, 1] bcast_S1x8_S65536x8_0_1 (broadcastInDim S1x8 ![1] bcast_S8_S1x8_1
      (mulf (broadcastInDim S8 ![] bcast_S_S8 w) sg)))
    (Host.divf e (broadcastInDim S65536x8 ![0, 1] bcast_S65536x1_S65536x8_0_1 (broadcastInDim S65536x1 ![0] bcast_S65536_S65536x1_0
      (Host.reduceAdd e (constant S_ .f32 0x00000000#32) reducesTo_S65536x8_S65536_d1 h_S_))))

/-- The same, element by element, over the extended reals. -/
theorem shares_at (T : FVec Ideal S65536x8 .f32) (w : FVec Ideal S_ .f32) (sg : FVec Ideal S8 .f32) (r : Fin 65536) (l : Fin 8) :
    (shares T w sg (ix2 r l) : EReal) = Share.share (w ix0) (fun k => (T (ix2 r k) : EReal) * sg (ix1 k)) (fun k => sg (ix1 k)) l := by
  pointwise [shares]
  rfl

set_option maxRecDepth 8192 in
/-- The run's `delta` is the term above. -/
theorem delta_eq (m : (ℓ : Loc nD τ sig) → Buf (Elt F) ℓ) (c : Dev nD) :
    Value.res_out1 m c = shares (taken (m ((c.tc : Thread nD τ).loc main_arg0))) (clipped (m ((c.tc : Thread nD τ).loc main_arg1)))
      (fun i => FloatOps.ofBits .f32 (lit1 (S8.rowMajor i))) := by
  unfold Value.res_out1 Value.res_main_v20
  rfl

set_option maxRecDepth 8192 in
/-- The run's `scattered_delta` is its `delta` put at the columns of an array of zeros. -/
theorem scattered_eq (m : (ℓ : Loc nD τ sig) → Buf (Elt F) ℓ) (c : Dev nD) :
    Value.res_out0 m c = Host.scatter scatter_S65536x256_S8x1_S65536x8_0_1_1_1 (fun _ b => b)
      (broadcastInDim S65536x256 ![] bcast_S_S65536x256 (constant S_ .f32 0x00000000#32)) words (Value.res_out1 m c) := by
  unfold Value.res_out0 Value.res_main_v28 Value.res_out1 Value.res_main_v20
  rfl

variable (m : (ℓ : Loc nD τ sig) → Buf (Elt Ideal) ℓ) (c : Dev nD)

/-- The array and the weight the reference is given. -/
abbrev array : FVec Ideal S65536x256 .f32 := m ((c.tc : Thread nD τ).loc main_arg0)
abbrev given : Ideal .f32 := (m ((c.tc : Thread nD τ).loc main_arg1) : FVec Ideal S_ .f32) ix0

/-- Where the largest of a row's literals is finite, the reference's `delta` is the kernel's in that row. -/
theorem delta_at (r : Fin 65536) (hb : Share.most (lit (rowOf (array m c) r)) ≠ ⊥) (ht : Share.most (lit (rowOf (array m c) r)) ≠ ⊤)
    (l : Fin 8) : (Value.res_out1 m c : FVec Ideal S65536x8 .f32) (ix2 r l) = delta (clip (given m c)) (rowOf (array m c) r) l := by
  rw [delta_eq]
  refine (shares_at _ _ _ r l).trans ?_
  rw [Share.delta_eq _ _ hb ht]
  have hz : (fun k => ((taken (array m c) (ix2 r k) : Ideal .f32) : EReal) * (FloatOps.ofBits .f32 (lit1 (S8.rowMajor (ix1 k))) : Ideal .f32))
      = lit (rowOf (array m c) r) := funext fun k => by
    rw [taken_at, signs_at]; rfl
  have hs : (fun k => (FloatOps.ofBits .f32 (lit1 (S8.rowMajor (ix1 k))) : Ideal .f32)) = sgn := funext fun k => signs_at k
  exact congrArg₂ (fun z s => Share.share (clip (given m c)) z s l) hz hs

/-- `delta`, whole. -/
theorem delta_fn (h : ∀ r, Share.most (lit (rowOf (array m c) r)) ≠ ⊥ ∧ Share.most (lit (rowOf (array m c) r)) ≠ ⊤) :
    (Value.res_out1 m c : FVec Ideal S65536x8 .f32) = deltas (clip (given m c)) (array m c) := funext fun y => by
  rw [eq_ix2 y]
  exact delta_at m c (y 0) (h _).1 (h _).2 (y 1)

/-- `scattered_delta`, whole. -/
theorem scattered_fn (h : ∀ r, Share.most (lit (rowOf (array m c) r)) ≠ ⊥ ∧ Share.most (lit (rowOf (array m c) r)) ≠ ⊤) :
    (Value.res_out0 m c : FVec Ideal S65536x256 .f32) = scattered (clip (given m c)) (array m c) := funext fun y => by
  rw [scattered_eq, eq_ix2 y]
  generalize y 0 = r
  generalize y 1 = a
  change Fin 65536 at r
  change Fin 256 at a
  show _ = spread (delta (clip (given m c)) (rowOf (array m c) r)) a
  by_cases ha : ∃ l, col l = a
  · obtain ⟨l, rfl⟩ := ha
    rw [spread_col]
    refine (Take.scatter_cols_hit _ _ words _ r l (col l) fun l' => ?_).trans (delta_at m c r (h r).1 (h r).2 l)
    rw [words_toInt]
    exact ⟨fun e => col_inj (Fin.ext (by exact_mod_cast e)), fun e => e ▸ rfl⟩
  · rw [spread_off _ fun l e => ha ⟨l, e⟩]
    refine (Take.scatter_cols_miss _ _ words _ r a fun l e => ha ⟨l, ?_⟩).trans rfl
    rw [words_toInt] at e
    exact Fin.ext (by exact_mod_cast e)

end Cert.Proof.Reference

end
-- ==== Proof.Finite.lean ====
/-
  The precondition read: in every row the largest of the signed literals is neither of the infinities.
-/
module

public import proofs.«01_k».proof.Proof.Reference
public import proofs.«01_k».proof.Proof.Gen.Pre_largest_literal_finite

@[expose] public section

noncomputable section

namespace Cert.Proof.Finite

open Idealize.ShloMosaic Cert.Pre_largest_literal_finite Cert.Pre_largest_literal_finite.Gen Cert.Proof.Row

/-- The signs, as the precondition holds them. -/
abbrev signs : FVec Ideal S8 .f32 := fun i => FloatOps.ofBits .f32 (lit1 (S8.rowMajor i))

/-- The precondition of the columns taken. -/
abbrev finite (T : FVec Ideal S65536x8 .f32) (sg : FVec Ideal S8 .f32) : IVec S65536 1 :=
  cmpf .olt (Host.absf (Host.reduce FloatOps.maximumf
      (mulf T (broadcastInDim S65536x8 ![0, 1] bcast_S1x8_S65536x8_0_1 (broadcastInDim S1x8 ![1] bcast_S8_S1x8_1 sg)))
      (constant S_ .f32 0xFF800000#32) reducesTo_S65536x8_S65536_d1 h_S_))
    (broadcastInDim S65536 ![] bcast_S_S65536 (constant S_ .f32 0x7F800000#32))

/-- Where it holds, the row's largest is finite. -/
theorem finite_at (T : FVec Ideal S65536x8 .f32) (sg : FVec Ideal S8 .f32) (r : Fin 65536) (h : finite T sg (ix1 r) = 1#1) :
    Share.most (fun k => (T (ix2 r k) : EReal) * sg (ix1 k)) ≠ ⊥ ∧ Share.most (fun k => (T (ix2 r k) : EReal) * sg (ix1 k)) ≠ ⊤ := by
  have e : finite T sg (ix1 r) = BitVec.ofBool (decide (max (Share.most (fun k => (T (ix2 r k) : EReal) * sg (ix1 k)))
      (-Share.most (fun k => (T (ix2 r k) : EReal) * sg (ix1 k))) < ⊤)) := by
    rw [← Share.pinf, ← Share.fold_eq]
    pointwise [finite]
    rfl
  rw [e] at h
  generalize Share.most (fun k => (T (ix2 r k) : EReal) * sg (ix1 k)) = a at h ⊢
  refine ⟨fun ha => ?_, fun ha => ?_⟩ <;> subst ha <;> simp at h

/-- The precondition takes the columns as the reference does. -/
theorem fn_eq (X : FVec Ideal S65536x256 .f32) (w : FVec Ideal S_ .f32) : fn (F := Ideal) X w = finite (Reference.taken X) signs := rfl

/-- The precondition, of a row. -/
theorem most_finite (X : FVec Ideal S65536x256 .f32) (w : FVec Ideal S_ .f32) (h : fn (F := Ideal) X w = fun _ => 1#1) (r : Fin 65536) :
    Share.most (lit (F := Ideal) (rowOf X r)) ≠ ⊥ ∧ Share.most (lit (F := Ideal) (rowOf X r)) ≠ ⊤ := by
  have hz : (fun k => ((Reference.taken X (ix2 r k) : Ideal .f32) : EReal) * signs (ix1 k)) = lit (rowOf X r) := funext fun k => by
    have hs : signs (ix1 k) = sgn k := Reference.signs_at k
    rw [Reference.taken_at, hs]; rfl
  rw [← hz]
  exact finite_at (Reference.taken X) signs r (congrFun ((fn_eq X w).symm.trans h) (ix1 r))

end Cert.Proof.Finite

end
-- ==== Proof.lean ====
/-
  The claims, from the runs: both programs' frames, and that over the extended reals the kernel's results are the reference's
  wherever every row's largest literal is finite. The kernel's run (Proof/Run.lean) is stated once over any float values; the
  reference's values (Proof/Reference.lean) and the equation between the two (Proof/Share.lean) are over the extended reals.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_largest_literal_finite
public import proofs.«01_k».proof.Proof.Run
public import proofs.«01_k».proof.Proof.Finite
public import Idealize.ShloMosaic.Adequacy
public import Idealize.ShloMosaic.Init

@[expose] public section

noncomputable section

namespace Cert.Proof

open Idealize.ShloMosaic Idealize.SL.Sem

/-- The kernel's frame, on the bits: the run of the same text with its values dropped. -/
theorem frame_kernel : Cert.quiescent_Kernel := fun m ρ _ =>
  (θ_run (Cert.KernelIdeal.defs (F := Bits)) _ _).mono (fun _ h => ⟨fun c => (h.1 c).2.2, h.2⟩) (Run.run_main (F := Bits) m ρ)

/-- Its frame over the extended reals. -/
theorem frame_ideal : Cert.quiescent_KernelIdeal := fun m ρ _ =>
  (θ_run (Cert.KernelIdeal.defs (F := Ideal)) _ _).mono (fun _ h => ⟨fun c => (h.1 c).2.2, h.2⟩) (Run.run_main (F := Ideal) m ρ)

/-- The reference's frame; it declares no semaphore. -/
theorem frame_reference : Cert.quiescent_ReferenceIdeal := fun m ρ _ =>
  (θ_run (Cert.ReferenceIdeal.defs (F := Ideal)) _ _).mono
    (fun r h => ⟨fun c => (h c).2.2, sem_eq_zero_of_no_sems (by decide) r.2⟩) (Cert.ReferenceIdeal.Value.run (F := Ideal) m ρ)

/-- The two programs' results are equal over the extended reals. -/
theorem algebraic : Cert.algebraic_KernelIdeal_ReferenceIdeal_pre_largest_literal_finite := by
  intro m g m' g' hpre hagree
  refine ⟨fun c => Row.scattered (Row.clip (Run.weight m c)) (Run.ground m c), fun c => Row.deltas (Row.clip (Run.weight m c)) (Run.ground m c),
    (θ_run (Cert.KernelIdeal.defs (F := Ideal)) _ _).mono (fun _ h c => h.1 c) (Run.run_main (F := Ideal) m g),
    (θ_run (Cert.ReferenceIdeal.defs (F := Ideal)) _ _).mono (fun r h c => ?_) (Cert.ReferenceIdeal.Value.run (F := Ideal) m' g')⟩
  have hx : Reference.array m' c = Run.ground m c := (hagree c).1
  have hw : Reference.given m' c = Run.weight m c :=
    (congrFun (hagree c).2 ix0).trans (congrArg (m (Run.aLoc c)) (funext fun a => a.elim0))
  have hm : ∀ r, Share.most (Row.lit (Row.rowOf (Reference.array m' c) r)) ≠ ⊥ ∧ Share.most (Row.lit (Row.rowOf (Reference.array m' c) r)) ≠ ⊤ := by
    rw [hx]
    exact Finite.most_finite _ _ (hpre c)
  refine ⟨(h c).1.trans ?_, (h c).2.1.trans ?_, (h c).2.2⟩
  · refine (Reference.scattered_fn m' c hm).trans ?_
    rw [hx, hw]
  · refine (Reference.delta_fn m' c hm).trans ?_
    rw [hx, hw]

theorem claim : Cert.Claim :=
  ⟨Cert.Kernel.Gen.facts, Cert.KernelIdeal.Gen.facts, Cert.ReferenceIdeal.Gen.facts, Cert.Pre_largest_literal_finite.Gen.facts,
    frame_kernel, frame_ideal, fun m g _ => frame_ideal m g trivial, frame_reference, fun m g _ => frame_reference m g trivial, trivial, algebraic⟩

end Cert.Proof

end
